-- ==== Defs.lean ====
def Pre_Kernel [hPre_words_in_range : Cert.Pre_words_in_range.Facts] (m : (ℓ : Loc Cert.Kernel.nD Cert.Kernel.τ Cert.Kernel.sig) → Buf (Elt Bits) ℓ) : Prop :=
  ∀ c : Dev Cert.Kernel.nD,
    (Cert.Pre_words_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_words_in_range : Cert.Pre_words_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_words_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_KernelIdeal_tame_inputs [hPre_tame_inputs : Cert.Pre_tame_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_tame_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame_inputs [hPre_tame_inputs : Cert.Pre_tame_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] [hPre_words_in_range : Cert.Pre_words_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_words_in_range : Cert.Pre_words_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_tame_inputs [hKernelIdeal : Cert.KernelIdeal.Facts] [hPre_tame_inputs : Cert.Pre_tame_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_tame_inputs [hReferenceIdeal : Cert.ReferenceIdeal.Facts] [hPre_tame_inputs : Cert.Pre_tame_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_tame_inputs [hKernelIdeal : Cert.KernelIdeal.Facts] [hReferenceIdeal : Cert.ReferenceIdeal.Facts] [hPre_tame_inputs : Cert.Pre_tame_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v108)) (v1 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_v109) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_words_in_range : Cert.Pre_words_in_range.Facts) (hPre_tame_inputs : Cert.Pre_tame_inputs.Facts),
    quiescent_Kernel (hKernel := hKernel) (hPre_words_in_range := hPre_words_in_range)
    ∧ quiescent_KernelIdeal (hKernelIdeal := hKernelIdeal) (hPre_words_in_range := hPre_words_in_range)
    ∧ quiescent_KernelIdeal_pre_tame_inputs (hKernelIdeal := hKernelIdeal) (hPre_tame_inputs := hPre_tame_inputs)
    ∧ quiescent_ReferenceIdeal (hReferenceIdeal := hReferenceIdeal)
    ∧ quiescent_ReferenceIdeal_pre_tame_inputs (hReferenceIdeal := hReferenceIdeal) (hPre_tame_inputs := hPre_tame_inputs)
    ∧ preserves_Kernel_KernelIdeal
    ∧ algebraic_KernelIdeal_ReferenceIdeal_pre_tame_inputs (hKernelIdeal := hKernelIdeal) (hReferenceIdeal := hReferenceIdeal) (hPre_tame_inputs := hPre_tame_inputs)
-- ==== Pre_tame_inputs.lean ====
abbrev S4096x128x128 : Shape := ⟨3, ![4096, 128, 128]⟩
abbrev S128x3 : Shape := ⟨2, ![128, 3]⟩
abbrev S4096 : Shape := ⟨1, ![4096]⟩
abbrev S128 : Shape := ⟨1, ![128]⟩
abbrev S128x128 : Shape := ⟨2, ![128, 128]⟩
abbrev S1x128 : Shape := ⟨2, ![1, 128]⟩
abbrev S1 : Shape := ⟨1, ![1]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  reducesTo_S128x3_S128_d1 : S128x3.ReducesTo [1] S128
  bcast_S_S128 : S_.BroadcastsInDim S128 (![] : Fin 0 → Fin S128.rank)
  reducesTo_S128_S_d0 : S128.ReducesTo [0] S_
  bcast_S_S4096x128x128 : S_.BroadcastsInDim S4096x128x128 (![] : Fin 0 → Fin S4096x128x128.rank)
  reducesTo_S4096x128x128_S_d0_1_2 : S4096x128x128.ReducesTo [0, 1, 2] S_
  bcast_S_S1x128 : S_.BroadcastsInDim S1x128 (![] : Fin 0 → Fin S1x128.rank)
  reducesTo_S1x128_S_d0_1 : S1x128.ReducesTo [0, 1] S_
  bcast_S_S128x128 : S_.BroadcastsInDim S128x128 (![] : Fin 0 → Fin S128x128.rank)
  reducesTo_S128x128_S_d0_1 : S128x128.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg11 : FVec F S1 .f32) (main_v5 : IVec S_ 1) (main_v10 : IVec S_ 1) (main_v19 : IVec S_ 1) (main_v28 : IVec S_ 1) (main_v31 : IVec S1x128 1) (main_c_13 : IVec S_ 1) : IVec S_ 1 :=
  let main_v32 : IVec S_ 1 := (fun x v => Host.reduce IntOp.andi x v reducesTo_S1x128_S_d0_1 h_S_) main_v31 main_c_13
  let main_v33 : IVec S_ 1 := andi main_v28 main_v32
  let main_v34 : FVec F S1 .f32 := Host.absf main_arg11
  let main_cst_14 : FVec F S_ .f32 := constant S_ .f32 0x7F800000#32
  let main_v35 : FVec F S1 .f32 := broadcastInDim S1 ![] bcast_S_S1 main_cst_14
  let main_v36 : IVec S1 1 := cmpf .olt main_v34 main_v35
  let main_c_15 : IVec S_ 1 := constantI S_ 1 1#1
  let main_v37 : IVec S_ 1 := (fun x v => Host.reduce IntOp.andi x v reducesTo_S1_S_d0 h_S_) main_v36 main_c_15
  let main_v38 : IVec S_ 1 := andi main_v33 main_v37
  let main_v39 : IVec S_ 1 := andi main_v5 main_v10
  let main_v40 : IVec S_ 1 := andi main_v39 main_v19
  let main_v41 : IVec S_ 1 := andi main_v40 main_v38
  main_v41

def fn_part1 {F : FTy → Type} [FloatOps F] (main_arg8 : FVec F S128x128 .f32) (main_arg9 : FVec F S128 .f32) (main_arg10 : FVec F S1x128 .f32) (main_arg11 : FVec F S1 .f32) (main_v5 : IVec S_ 1) (main_v10 : IVec S_ 1) (main_v14 : IVec S_ 1) (main_v15 : FVec F S1x128 .f32) : IVec S_ 1 :=
  let main_cst_6 : FVec F S_ .f32 := constant S_ .f32 0x7F800000#32
  let main_v16 : FVec F S1x128 .f32 := broadcastInDim S1x128 ![] bcast_S_S1x128 main_cst_6
  let main_v17 : IVec S1x128 1 := cmpf .olt main_v15 main_v16
  let main_c_7 : IVec S_ 1 := constantI S_ 1 1#1
  let main_v18 : IVec S_ 1 := (fun x v => Host.reduce IntOp.andi x v reducesTo_S1x128_S_d0_1 h_S_) main_v17 main_c_7
  let main_v19 : IVec S_ 1 := andi main_v14 main_v18
  let main_v20 : FVec F S128x128 .f32 := Host.absf main_arg8
  let main_cst_8 : FVec F S_ .f32 := constant S_ .f32 0x7F800000#32
  let main_v21 : FVec F S128x128 .f32 := broadcastInDim S128x128 ![] bcast_S_S128x128 main_cst_8
  let main_v22 : IVec S128x128 1 := cmpf .olt main_v20 main_v21
  let main_c_9 : IVec S_ 1 := constantI S_ 1 1#1
  let main_v23 : IVec S_ 1 := (fun x v => Host.reduce IntOp.andi x v reducesTo_S128x128_S_d0_1 h_S_) main_v22 main_c_9
  let main_v24 : FVec F S128 .f32 := Host.absf main_arg9
  let main_cst_10 : FVec F S_ .f32 := constant S_ .f32 0x7F800000#32
  let main_v25 : FVec F S128 .f32 := broadcastInDim S128 ![] bcast_S_S128 main_cst_10
  let main_v26 : IVec S128 1 := cmpf .olt main_v24 main_v25
  let main_c_11 : IVec S_ 1 := constantI S_ 1 1#1
  let main_v27 : IVec S_ 1 := (fun x v => Host.reduce IntOp.andi x v reducesTo_S128_S_d0 h_S_) main_v26 main_c_11
  let main_v28 : IVec S_ 1 := andi main_v23 main_v27
  let main_v29 : FVec F S1x128 .f32 := Host.absf main_arg10
  let main_cst_12 : FVec F S_ .f32 := constant S_ .f32 0x7F800000#32
  let main_v30 : FVec F S1x128 .f32 := broadcastInDim S1x128 ![] bcast_S_S1x128 main_cst_12
  let main_v31 : IVec S1x128 1 := cmpf .olt main_v29 main_v30
  let main_c_13 : IVec S_ 1 := constantI S_ 1 1#1
  fn_part2 (F := F) main_arg11 main_v5 main_v10 main_v19 main_v28 main_v31 main_c_13

def fn {F : FTy → Type} [FloatOps F] (main_arg0 : FVec F S4096x128x128 .f32) (main_arg1 : FVec F S128x3 .f32) (main_arg2 : IVec S4096 32) (main_arg3 : IVec S128 32) (main_arg4 : FVec F S128x128 .f32) (main_arg5 : FVec F S128 .f32) (main_arg6 : FVec F S1x128 .f32) (main_arg7 : FVec F S1 .f32) (main_arg8 : FVec F S128x128 .f32) (main_arg9 : FVec F S128 .f32) (main_arg10 : FVec F S1x128 .f32) (main_arg11 : FVec F S1 .f32) : IVec S_ 1 :=
  let main_c : IVec S_ 32 := constantI S_ 32 0#32
  let main_v0 : IVec S4096 32 := broadcastInDim S4096 ![] bcast_S_S4096 main_c
  let main_v1 : IVec S4096 1 := cmpi .sge main_arg2 main_v0
  let main_c_0 : IVec S_ 32 := constantI S_ 32 128#32
  let main_v2 : IVec S4096 32 := broadcastInDim S4096 ![] bcast_S_S4096 main_c_0
  let main_v3 : IVec S4096 1 := cmpi .slt main_arg2 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  let main_v6 : FVec F S128x3 .f32 := mulf main_arg1 main_arg1
  let main_cst : FVec F S_ .f32 := constant S_ .f32 0x00000000#32
  let main_v7 : FVec F S128 .f32 := (fun x v => Host.reduceAdd x v reducesTo_S128x3_S128_d1 h_S_) main_v6 main_cst
  let main_cst_2 : FVec F S_ .f32 := constant S_ .f32 0x00000000#32
  let main_v8 : FVec F S128 .f32 := broadcastInDim S128 ![] bcast_S_S128 main_cst_2
  let main_v9 : IVec S128 1 := cmpf .ogt main_v7 main_v8
  let main_c_3 : IVec S_ 1 := constantI S_ 1 1#1
  let main_v10 : IVec S_ 1 := (fun x v => Host.reduce IntOp.andi x v reducesTo_S128_S_d0 h_S_) main_v9 main_c_3
  let main_v11 : FVec F S4096x128x128 .f32 := Host.absf main_arg0
  let main_cst_4 : FVec F S_ .f32 := constant S_ .f32 0x7F800000#32
  let main_v12 : FVec F S4096x128x128 .f32 := broadcastInDim S4096x128x128 ![] bcast_S_S4096x128x128 main_cst_4
  let main_v13 : IVec S4096x128x128 1 := cmpf .olt main_v11 main_v12
  let main_c_5 : IVec S_ 1 := constantI S_ 1 1#1
  let main_v14 : IVec S_ 1 := (fun x v => Host.reduce IntOp.andi x v reducesTo_S4096x128x128_S_d0_1_2 h_S_) main_v13 main_c_5
  let main_v15 : FVec F S1x128 .f32 := Host.absf main_arg6
  fn_part1 (F := F) main_arg8 main_arg9 main_arg10 main_arg11 main_v5 main_v10 main_v14 main_v15
-- ==== Pre_words_in_range.lean ====
abbrev S4096x128x128 : Shape := ⟨3, ![4096, 128, 128]⟩
abbrev S128x3 : Shape := ⟨2, ![128, 3]⟩
abbrev S4096 : Shape := ⟨1, ![4096]⟩
abbrev S128 : Shape := ⟨1, ![128]⟩
abbrev S128x128 : Shape := ⟨2, ![128, 128]⟩
abbrev S1x128 : Shape := ⟨2, ![1, 128]⟩
abbrev S1 : Shape := ⟨1, ![1]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : FVec F S4096x128x128 .f32) (main_arg1 : FVec F S128x3 .f32) (main_arg2 : IVec S4096 32) (main_arg3 : IVec S128 32) (main_arg4 : FVec F S128x128 .f32) (main_arg5 : FVec F S128 .f32) (main_arg6 : FVec F S1x128 .f32) (main_arg7 : FVec F S1 .f32) (main_arg8 : FVec F S128x128 .f32) (main_arg9 : FVec F S128 .f32) (main_arg10 : FVec F S1x128 .f32) (main_arg11 : FVec F S1 .f32) : IVec S_ 1 :=
  let main_c : IVec S_ 32 := constantI S_ 32 0#32
  let main_v0 : IVec S4096 32 := broadcastInDim S4096 ![] bcast_S_S4096 main_c
  let main_v1 : IVec S4096 1 := cmpi .sge main_arg2 main_v0
  let main_c_0 : IVec S_ 32 := constantI S_ 32 128#32
  let main_v2 : IVec S4096 32 := broadcastInDim S4096 ![] bcast_S_S4096 main_c_0
  let main_v3 : IVec S4096 1 := cmpi .slt main_arg2 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  main_v5
-- ==== Kernel.lean ====
abbrev S4096x128x128 : Shape := ⟨3, ![4096, 128, 128]⟩
abbrev S128x3 : Shape := ⟨2, ![128, 3]⟩
abbrev S4096 : Shape := ⟨1, ![4096]⟩
abbrev S128 : Shape := ⟨1, ![128]⟩
abbrev S128x128 : Shape := ⟨2, ![128, 128]⟩
abbrev S1x128 : Shape := ⟨2, ![1, 128]⟩
abbrev S1 : Shape := ⟨1, ![1]⟩
abbrev S_ : Shape := ⟨0, ![]⟩
abbrev S128x1 : Shape := ⟨2, ![128, 1]⟩
abbrev S128x5 : Shape := ⟨2, ![128, 5]⟩
abbrev S524288x128 : Shape := ⟨2, ![524288, 128]⟩
abbrev S128x256 : Shape := ⟨2, ![128, 256]⟩
abbrev S256 : Shape := ⟨1, ![256]⟩
abbrev S1x256 : Shape := ⟨2, ![1, 256]⟩
abbrev S128x2 : Shape := ⟨2, ![128, 2]⟩
abbrev S128x8 : Shape := ⟨2, ![128, 8]⟩
abbrev S8x256 : Shape := ⟨2, ![8, 256]⟩
abbrev S8x16 : Shape := ⟨2, ![8, 16]⟩
abbrev S2 : Shape := ⟨1, ![2]⟩
abbrev S5 : Shape := ⟨1, ![5]⟩
abbrev S16 : Shape := ⟨1, ![16]⟩
abbrev S1x16 : Shape := ⟨2, ![1, 16]⟩
abbrev S128x16 : Shape := ⟨2, ![128, 16]⟩
abbrev S1024x128 : Shape := ⟨2, ![1024, 128]⟩
abbrev S1024x256 : Shape := ⟨2, ![1024, 256]⟩
abbrev S8 : Shape := ⟨1, ![8]⟩
abbrev S8x1 : Shape := ⟨2, ![8, 1]⟩

abbrev nBuf : Space → Nat
  | .hbm => 164
  | .vmem => 9
  | .smem => 1
  | _ => 0

abbrev hbmTy0_0 (i : Nat) : BufTy := match i % 128 with
  | 0 => ⟨S4096x128x128, .f32⟩
  | 1 => ⟨S128x3, .f32⟩
  | 2 => ⟨S4096, .i32⟩
  | 3 => ⟨S128, .i32⟩
  | 4 => ⟨S128x128, .f32⟩
  | 5 => ⟨S128, .f32⟩
  | 6 => ⟨S1x128, .f32⟩
  | 7 => ⟨S1, .f32⟩
  | 8 => ⟨S128x128, .f32⟩
  | 9 => ⟨S128, .f32⟩
  | 10 => ⟨S1x128, .f32⟩
  | 11 => ⟨S1, .f32⟩
  | 12 => ⟨S128x3, .f32⟩
  | 13 => ⟨S_, .f32⟩
  | 14 => ⟨S128, .f32⟩
  | 15 => ⟨S128x1, .f32⟩
  | 16 => ⟨S128x1, .f32⟩
  | 17 => ⟨S128x3, .f32⟩
  | 18 => ⟨S128x3, .f32⟩
  | 19 => ⟨S128x1, .f32⟩
  | 20 => ⟨S128, .f32⟩
  | 21 => ⟨S128x1, .f32⟩
  | 22 => ⟨S128, .f32⟩
  | 23 => ⟨S128x1, .f32⟩
  | 24 => ⟨S128, .f32⟩
  | 25 => ⟨S_, .f32⟩
  | 26 => ⟨S128, .f32⟩
  | 27 => ⟨S128, .f32⟩
  | 28 => ⟨S128, .f32⟩
  | 29 => ⟨S_, .f32⟩
  | 30 => ⟨S128, .f32⟩
  | 31 => ⟨S128, .f32⟩
  | 32 => ⟨S128, .f32⟩
  | 33 => ⟨S128, .f32⟩
  | 34 => ⟨S128, .f32⟩
  | 35 => ⟨S128, .f32⟩
  | 36 => ⟨S128, .f32⟩
  | 37 => ⟨S_, .f32⟩
  | 38 => ⟨S128, .f32⟩
  | 39 => ⟨S128, .f32⟩
  | 40 => ⟨S128, .f32⟩
  | 41 => ⟨S_, .f32⟩
  | 42 => ⟨S128, .f32⟩
  | 43 => ⟨S128, .f32⟩
  | 44 => ⟨S_, .f32⟩
  | 45 => ⟨S128, .f32⟩
  | 46 => ⟨S128, .f32⟩
  | 47 => ⟨S128, .f32⟩
  | 48 => ⟨S128, .f32⟩
  | 49 => ⟨S128, .f32⟩
  | 50 => ⟨S128, .f32⟩
  | 51 => ⟨S_, .f32⟩
  | 52 => ⟨S128, .f32⟩
  | 53 => ⟨S128, .f32⟩
  | 54 => ⟨S128x1, .f32⟩
  | 55 => ⟨S128x1, .f32⟩
  | 56 => ⟨S128x1, .f32⟩
  | 57 => ⟨S128x1, .f32⟩
  | 58 => ⟨S128x1, .f32⟩
  | 59 => ⟨S128x5, .f32⟩
  | 60 => ⟨S_, .f32⟩
  | 61 => ⟨S128x5, .f32⟩
  | 62 => ⟨S128x5, .f32⟩
  | 63 => ⟨S524288x128, .f32⟩
  | 64 => ⟨S128x128, .f32⟩
  | 65 => ⟨S128x128, .f32⟩
  | 66 => ⟨S128x256, .f32⟩
  | 67 => ⟨S256, .f32⟩
  | 68 => ⟨S1x256, .f32⟩
  | 69 => ⟨S_, .f32⟩
  | 70 => ⟨S128x1, .f32⟩
  | 71 => ⟨S_, .f32⟩
  | 72 => ⟨S128x5, .f32⟩
  | 73 => ⟨S128x5, .f32⟩
  | 74 => ⟨S_, .f32⟩
  | 75 => ⟨S128x2, .f32⟩
  | 76 => ⟨S128x8, .f32⟩
  | 77 => ⟨S128, .f32⟩
  | 78 => ⟨S128, .f32⟩
  | 79 => ⟨S_, .f32⟩
  | 80 => ⟨S128, .f32⟩
  | 81 => ⟨S256, .f32⟩
  | 82 => ⟨S256, .f32⟩
  | 83 => ⟨S_, .f32⟩
  | 84 => ⟨S256, .f32⟩
  | 85 => ⟨S1x256, .f32⟩
  | 86 => ⟨S1x256, .f32⟩
  | 87 => ⟨S1x256, .f32⟩
  | 88 => ⟨S1x256, .f32⟩
  | 89 => ⟨S1x256, .f32⟩
  | 90 => ⟨S1x256, .f32⟩
  | 91 => ⟨S1x256, .f32⟩
  | 92 => ⟨S1x256, .f32⟩
  | 93 => ⟨S8x256, .f32⟩
  | 94 => ⟨S_, .f32⟩
  | 95 => ⟨S8x16, .f32⟩
  | 96 => ⟨S_, .i32⟩
  | 97 => ⟨S1, .i32⟩
  | 98 => ⟨S_, .i32⟩
  | 99 => ⟨S1, .i32⟩
  | 100 => ⟨S2, .i32⟩
  | 101 => ⟨S_, .f32⟩
  | 102 => ⟨S8x16, .f32⟩
  | 103 => ⟨S_, .i32⟩
  | 104 => ⟨S1, .i32⟩
  | 105 => ⟨S_, .i32⟩
  | 106 => ⟨S1, .i32⟩
  | 107 => ⟨S2, .i32⟩
  | 108 => ⟨S_, .f32⟩
  | 109 => ⟨S8x16, .f32⟩
  | 110 => ⟨S_, .i32⟩
  | 111 => ⟨S1, .i32⟩
  | 112 => ⟨S_, .i32⟩
  | 113 => ⟨S1, .i32⟩
  | 114 => ⟨S2, .i32⟩
  | 115 => ⟨S_, .f32⟩
  | 116 => ⟨S8x16, .f32⟩
  | 117 => ⟨S_, .i32⟩
  | 118 => ⟨S1, .i32⟩
  | 119 => ⟨S_, .i32⟩
  | 120 => ⟨S1, .i32⟩
  | 121 => ⟨S2, .i32⟩
  | 122 => ⟨S_, .f32⟩
  | 123 => ⟨S8x16, .f32⟩
  | 124 => ⟨S_, .i32⟩
  | 125 => ⟨S1, .i32⟩
  | 126 => ⟨S_, .i32⟩
  | 127 => ⟨S1, .i32⟩
  | _ => ⟨S4096x128x128, .f32⟩

abbrev hbmTy0_1 (i : Nat) : BufTy := match i % 128 with
  | 0 => ⟨S2, .i32⟩
  | 1 => ⟨S_, .f32⟩
  | 2 => ⟨S8x16, .f32⟩
  | 3 => ⟨S_, .i32⟩
  | 4 => ⟨S1, .i32⟩
  | 5 => ⟨S_, .i32⟩
  | 6 => ⟨S1, .i32⟩
  | 7 => ⟨S2, .i32⟩
  | 8 => ⟨S_, .f32⟩
  | 9 => ⟨S8x16, .f32⟩
  | 10 => ⟨S_, .f32⟩
  | 11 => ⟨S5, .f32⟩
  | 12 => ⟨S_, .f32⟩
  | 13 => ⟨S5, .f32⟩
  | 14 => ⟨S5, .f32⟩
  | 15 => ⟨S_, .f32⟩
  | 16 => ⟨S16, .f32⟩
  | 17 => ⟨S_, .f32⟩
  | 18 => ⟨S_, .i32⟩
  | 19 => ⟨S1, .i32⟩
  | 20 => ⟨S16, .f32⟩
  | 21 => ⟨S_, .f32⟩
  | 22 => ⟨S5, .f32⟩
  | 23 => ⟨S5, .f32⟩
  | 24 => ⟨S_, .i32⟩
  | 25 => ⟨S1, .i32⟩
  | 26 => ⟨S16, .f32⟩
  | 27 => ⟨S_, .i32⟩
  | 28 => ⟨S1, .i32⟩
  | 29 => ⟨S_, .f32⟩
  | 30 => ⟨S16, .f32⟩
  | 31 => ⟨S1x16, .f32⟩
  | 32 => ⟨S128x16, .f32⟩
  | 33 => ⟨S128x1, .f32⟩
  | 34 => ⟨S128, .f32⟩
  | 35 => ⟨S128x5, .f32⟩
  | _ => ⟨S4096x128x128, .f32⟩

abbrev hbmTy (i : Nat) : BufTy := match i / 128 with
  | 0 => hbmTy0_0 i
  | 1 => hbmTy0_1 i
  | _ => ⟨S4096x128x128, .f32⟩

abbrev bufTy : (tb : Table) → Fin (tcTables nBuf tb) → BufTy
  | .hbm, ⟨i, _⟩ => hbmTy i
  | .local _ .vmem, ⟨0, _⟩ => ⟨S1024x128, .f32⟩
  | .local _ .vmem, ⟨1, _⟩ => ⟨S1024x128, .f32⟩
  | .local _ .vmem, ⟨2, _⟩ => ⟨S128x256, .f32⟩
  | .local _ .vmem, ⟨3, _⟩ => ⟨S1x256, .f32⟩
  | .local _ .vmem, ⟨4, _⟩ => ⟨S128x8, .f32⟩
  | .local _ .vmem, ⟨5, _⟩ => ⟨S8x256, .f32⟩
  | .local _ .vmem, ⟨6, _⟩ => ⟨S8x16, .f32⟩
  | .local _ .vmem, ⟨7, _⟩ => ⟨S1x16, .f32⟩
  | .local _ .vmem, ⟨8, _⟩ => ⟨S128x16, .f32⟩
  | .local _ .smem, ⟨0, _⟩ => ⟨S4096, .i32⟩
  | _, _ => ⟨S4096x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_call0_v2 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_4 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_5 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_6 : Ref sig .tc := ⟨.hbm, 69, rfl⟩
abbrev main_v46 : Ref sig .tc := ⟨.hbm, 70, rfl⟩
abbrev main_cst_7 : Ref sig .tc := ⟨.hbm, 71, rfl⟩
abbrev main_v47 : Ref sig .tc := ⟨.hbm, 72, rfl⟩
abbrev main_v48 : Ref sig .tc := ⟨.hbm, 73, rfl⟩
abbrev main_cst_8 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_9 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_10 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_11 : Ref sig .tc := ⟨.hbm, 94, rfl⟩
abbrev main_v66 : Ref sig .tc := ⟨.hbm, 95, rfl⟩
abbrev main_c : Ref sig .tc := ⟨.hbm, 96, rfl⟩
abbrev main_v67 : Ref sig .tc := ⟨.hbm, 97, rfl⟩
abbrev main_c_12 : Ref sig .tc := ⟨.hbm, 98, rfl⟩
abbrev main_v68 : Ref sig .tc := ⟨.hbm, 99, rfl⟩
abbrev main_v69 : Ref sig .tc := ⟨.hbm, 100, rfl⟩
abbrev main_cst_13 : Ref sig .tc := ⟨.hbm, 101, rfl⟩
abbrev main_v70 : Ref sig .tc := ⟨.hbm, 102, rfl⟩
abbrev main_c_14 : Ref sig .tc := ⟨.hbm, 103, rfl⟩
abbrev main_v71 : Ref sig .tc := ⟨.hbm, 104, rfl⟩
abbrev main_c_15 : Ref sig .tc := ⟨.hbm, 105, rfl⟩
abbrev main_v72 : Ref sig .tc := ⟨.hbm, 106, rfl⟩
abbrev main_v73 : Ref sig .tc := ⟨.hbm, 107, rfl⟩
abbrev main_cst_16 : Ref sig .tc := ⟨.hbm, 108, rfl⟩
abbrev main_v74 : Ref sig .tc := ⟨.hbm, 109, rfl⟩
abbrev main_c_17 : Ref sig .tc := ⟨.hbm, 110, rfl⟩
abbrev main_v75 : Ref sig .tc := ⟨.hbm, 111, rfl⟩
abbrev main_c_18 : Ref sig .tc := ⟨.hbm, 112, rfl⟩
abbrev main_v76 : Ref sig .tc := ⟨.hbm, 113, rfl⟩
abbrev main_v77 : Ref sig .tc := ⟨.hbm, 114, rfl⟩
abbrev main_cst_19 : Ref sig .tc := ⟨.hbm, 115, rfl⟩
abbrev main_v78 : Ref sig .tc := ⟨.hbm, 116, rfl⟩
abbrev main_c_20 : Ref sig .tc := ⟨.hbm, 117, rfl⟩
abbrev main_v79 : Ref sig .tc := ⟨.hbm, 118, rfl⟩
abbrev main_c_21 : Ref sig .tc := ⟨.hbm, 119, rfl⟩
abbrev main_v80 : Ref sig .tc := ⟨.hbm, 120, rfl⟩
abbrev main_v81 : Ref sig .tc := ⟨.hbm, 121, rfl⟩
abbrev main_cst_22 : Ref sig .tc := ⟨.hbm, 122, rfl⟩
abbrev main_v82 : Ref sig .tc := ⟨.hbm, 123, rfl⟩
abbrev main_c_23 : Ref sig .tc := ⟨.hbm, 124, rfl⟩
abbrev main_v83 : Ref sig .tc := ⟨.hbm, 125, rfl⟩
abbrev main_c_24 : Ref sig .tc := ⟨.hbm, 126, rfl⟩
abbrev main_v84 : Ref sig .tc := ⟨.hbm, 127, rfl⟩
abbrev main_v85 : Ref sig .tc := ⟨.hbm, 128, rfl⟩
abbrev main_cst_25 : Ref sig .tc := ⟨.hbm, 129, rfl⟩
abbrev main_v86 : Ref sig .tc := ⟨.hbm, 130, rfl⟩
abbrev main_c_26 : Ref sig .tc := ⟨.hbm, 131, rfl⟩
abbrev main_v87 : Ref sig .tc := ⟨.hbm, 132, rfl⟩
abbrev main_c_27 : Ref sig .tc := ⟨.hbm, 133, rfl⟩
abbrev main_v88 : Ref sig .tc := ⟨.hbm, 134, rfl⟩
abbrev main_v89 : Ref sig .tc := ⟨.hbm, 135, rfl⟩
abbrev main_cst_28 : Ref sig .tc := ⟨.hbm, 136, rfl⟩
abbrev main_v90 : Ref sig .tc := ⟨.hbm, 137, rfl⟩
abbrev main_cst_29 : Ref sig .tc := ⟨.hbm, 138, rfl⟩
abbrev main_v91 : Ref sig .tc := ⟨.hbm, 139, rfl⟩
abbrev main_cst_30 : Ref sig .tc := ⟨.hbm, 140, rfl⟩
abbrev main_v92 : Ref sig .tc := ⟨.hbm, 141, rfl⟩
abbrev main_v93 : Ref sig .tc := ⟨.hbm, 142, rfl⟩
abbrev main_cst_31 : Ref sig .tc := ⟨.hbm, 143, rfl⟩
abbrev main_v94 : Ref sig .tc := ⟨.hbm, 144, rfl⟩
abbrev main_v95 : Ref sig .tc := ⟨.hbm, 145, rfl⟩
abbrev main_c_32 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_c_33 : Ref sig .tc := ⟨.hbm, 152, rfl⟩
abbrev main_v101 : Ref sig .tc := ⟨.hbm, 153, rfl⟩
abbrev main_v102 : Ref sig .tc := ⟨.hbm, 154, rfl⟩
abbrev main_c_34 : Ref sig .tc := ⟨.hbm, 155, rfl⟩
abbrev main_v103 : Ref sig .tc := ⟨.hbm, 156, rfl⟩
abbrev main_cst_35 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg8_0 : Ref sig .tc := ⟨.vmem, 8, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9

abbrev nD : Nat := 1
abbrev τ : Topo := Topo.v7x

variable {F : FTy → Type} [FloatOps F]

abbrev grid0 : Pipeline.Grid := ⟨1, ![512], ![false]⟩

def k0_off1 (i : grid0.Coords) : Fin 1 → Nat :=
  let arg0 : BitVec 32 := BitVec.ofNat 32 (i 0).val
  let c8_i32 : BitVec 32 := 8#32
  let v29 : BitVec 32 := Scalar.muli arg0 c8_i32
  let c0_i32_17 : BitVec 32 := 0#32
  let v30 : BitVec 32 := Scalar.addi v29 c0_i32_17
  let v31 : Index := Scalar.indexCast v30
  ![v31.toNat]
def k0_off2 (v32 : BitVec 32) : Fin 2 → Nat :=
  let v33 : Index := Scalar.indexCast v32
  let c0_18 : Index := 0#32
  ![v33.toNat, 0]

def k0_chk1 (v32 : BitVec 32) : Prop :=
  (∀ a, (k0_off2 v32) a + S1x16.size a ≤ S128x16.size a)
theorem k0_off2_inb : ∀ (v32 : BitVec 32) (k0_hw1 : k0_chk1 v32), ∀ a, (k0_off2 v32) a + S1x16.size a ≤ S128x16.size a := fun v32 k0_hw1 => k0_hw1

def k0_off3 (i : grid0.Coords) : Fin 1 → Nat :=
  let arg0 : BitVec 32 := BitVec.ofNat 32 (i 0).val
  let c8_i32_31 : BitVec 32 := 8#32
  let v54 : BitVec 32 := Scalar.muli arg0 c8_i32_31
  let c1_i32 : BitVec 32 := 1#32
  let v55 : BitVec 32 := Scalar.addi v54 c1_i32
  let v56 : Index := Scalar.indexCast v55
  ![v56.toNat]
def k0_off4 (v57 : BitVec 32) : Fin 2 → Nat :=
  let v58 : Index := Scalar.indexCast v57
  let c0_32 : Index := 0#32
  ![v58.toNat, 0]

def k0_chk2 (v57 : BitVec 32) : Prop :=
  (∀ a, (k0_off4 v57) a + S1x16.size a ≤ S128x16.size a)
theorem k0_off4_inb : ∀ (v57 : BitVec 32) (k0_hw2 : k0_chk2 v57), ∀ a, (k0_off4 v57) a + S1x16.size a ≤ S128x16.size a := fun v57 k0_hw2 => k0_hw2

def k0_off5 (i : grid0.Coords) : Fin 1 → Nat :=
  let arg0 : BitVec 32 := BitVec.ofNat 32 (i 0).val
  let c8_i32_45 : BitVec 32 := 8#32
  let v79 : BitVec 32 := Scalar.muli arg0 c8_i32_45
  let c2_i32 : BitVec 32 := 2#32
  let v80 : BitVec 32 := Scalar.addi v79 c2_i32
  let v81 : Index := Scalar.indexCast v80
  ![v81.toNat]
def k0_off6 (v82 : BitVec 32) : Fin 2 → Nat :=
  let v83 : Index := Scalar.indexCast v82
  let c0_46 : Index := 0#32
  ![v83.toNat, 0]

def k0_chk3 (v82 : BitVec 32) : Prop :=
  (∀ a, (k0_off6 v82) a + S1x16.size a ≤ S128x16.size a)
theorem k0_off6_inb : ∀ (v82 : BitVec 32) (k0_hw3 : k0_chk3 v82), ∀ a, (k0_off6 v82) a + S1x16.size a ≤ S128x16.size a := fun v82 k0_hw3 => k0_hw3

def k0_off7 (i : grid0.Coords) : Fin 1 → Nat :=
  let arg0 : BitVec 32 := BitVec.ofNat 32 (i 0).val
  let c8_i32_59 : BitVec 32 := 8#32
  let v104 : BitVec 32 := Scalar.muli arg0 c8_i32_59
  let c3_i32 : BitVec 32 := 3#32
  let v105 : BitVec 32 := Scalar.addi v104 c3_i32
  let v106 : Index := Scalar.indexCast v105
  ![v106.toNat]
def k0_off8 (v107 : BitVec 32) : Fin 2 → Nat :=
  let v108 : Index := Scalar.indexCast v107
  let c0_60 : Index := 0#32
  ![v108.toNat, 0]

def k0_chk4 (v107 : BitVec 32) : Prop :=
  (∀ a, (k0_off8 v107) a + S1x16.size a ≤ S128x16.size a)
theorem k0_off8_inb : ∀ (v107 : BitVec 32) (k0_hw4 : k0_chk4 v107), ∀ a, (k0_off8 v107) a + S1x16.size a ≤ S128x16.size a := fun v107 k0_hw4 => k0_hw4

def k0_off9 (i : grid0.Coords) : Fin 1 → Nat :=
  let arg0 : BitVec 32 := BitVec.ofNat 32 (i 0).val
  let c8_i32_73 : BitVec 32 := 8#32
  let v129 : BitVec 32 := Scalar.muli arg0 c8_i32_73
  let c4_i32 : BitVec 32 := 4#32
  let v130 : BitVec 32 := Scalar.addi v129 c4_i32
  let v131 : Index := Scalar.indexCast v130
  ![v131.toNat]
def k0_off10 (v132 : BitVec 32) : Fin 2 → Nat :=
  let v133 : Index := Scalar.indexCast v132
  let c0_74 : Index := 0#32
  ![v133.toNat, 0]

def k0_chk5 (v132 : BitVec 32) : Prop :=
  (∀ a, (k0_off10 v132) a + S1x16.size a ≤ S128x16.size a)
theorem k0_off10_inb : ∀ (v132 : BitVec 32) (k0_hw5 : k0_chk5 v132), ∀ a, (k0_off10 v132) a + S1x16.size a ≤ S128x16.size a := fun v132 k0_hw5 => k0_hw5

def k0_off11 (i : grid0.Coords) : Fin 1 → Nat :=
  let arg0 : BitVec 32 := BitVec.ofNat 32 (i 0).val
  let c8_i32_87 : BitVec 32 := 8#32
  let v154 : BitVec 32 := Scalar.muli arg0 c8_i32_87
  let c5_i32 : BitVec 32 := 5#32
  let v155 : BitVec 32 := Scalar.addi v154 c5_i32
  let v156 : Index := Scalar.indexCast v155
  ![v156.toNat]
def k0_off12 (v157 : BitVec 32) : Fin 2 → Nat :=
  let v158 : Index := Scalar.indexCast v157
  let c0_88 : Index := 0#32
  ![v158.toNat, 0]

def k0_chk6 (v157 : BitVec 32) : Prop :=
  (∀ a, (k0_off12 v157) a + S1x16.size a ≤ S128x16.size a)
theorem k0_off12_inb : ∀ (v157 : BitVec 32) (k0_hw6 : k0_chk6 v157), ∀ a, (k0_off12 v157) a + S1x16.size a ≤ S128x16.size a := fun v157 k0_hw6 => k0_hw6

def k0_off13 (i : grid0.Coords) : Fin 1 → Nat :=
  let arg0 : BitVec 32 := BitVec.ofNat 32 (i 0).val
  let c8_i32_101 : BitVec 32 := 8#32
  let v179 : BitVec 32 := Scalar.muli arg0 c8_i32_101
  let c6_i32 : BitVec 32 := 6#32
  let v180 : BitVec 32 := Scalar.addi v179 c6_i32
  let v181 : Index := Scalar.indexCast v180
  ![v181.toNat]
def k0_off14 (v182 : BitVec 32) : Fin 2 → Nat :=
  let v183 : Index := Scalar.indexCast v182
  let c0_102 : Index := 0#32
  ![v183.toNat, 0]

def k0_chk7 (v182 : BitVec 32) : Prop :=
  (∀ a, (k0_off14 v182) a + S1x16.size a ≤ S128x16.size a)
theorem k0_off14_inb : ∀ (v182 : BitVec 32) (k0_hw7 : k0_chk7 v182), ∀ a, (k0_off14 v182) a + S1x16.size a ≤ S128x16.size a := fun v182 k0_hw7 => k0_hw7

def k0_off15 (i : grid0.Coords) : Fin 1 → Nat :=
  let arg0 : BitVec 32 := BitVec.ofNat 32 (i 0).val
  let c8_i32_115 : BitVec 32 := 8#32
  let v204 : BitVec 32 := Scalar.muli arg0 c8_i32_115
  let c7_i32 : BitVec 32 := 7#32
  let v205 : BitVec 32 := Scalar.addi v204 c7_i32
  let v206 : Index := Scalar.indexCast v205
  ![v206.toNat]
def k0_off16 (v207 : BitVec 32) : Fin 2 → Nat :=
  let v208 : Index := Scalar.indexCast v207
  let c0_116 : Index := 0#32
  ![v208.toNat, 0]

def k0_chk8 (v207 : BitVec 32) : Prop :=
  (∀ a, (k0_off16 v207) a + S1x16.size a ≤ S128x16.size a)
theorem k0_off16_inb : ∀ (v207 : BitVec 32) (k0_hw8 : k0_chk8 v207), ∀ a, (k0_off16 v207) a + S1x16.size a ≤ S128x16.size a := fun v207 k0_hw8 => k0_hw8

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S4096 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S4096x128x128 : Shape := ⟨3, ![4096, 128, 128]⟩
abbrev S128x3 : Shape := ⟨2, ![128, 3]⟩
abbrev S4096 : Shape := ⟨1, ![4096]⟩
abbrev S128 : Shape := ⟨1, ![128]⟩
abbrev S128x128 : Shape := ⟨2, ![128, 128]⟩
abbrev S1x128 : Shape := ⟨2, ![1, 128]⟩
abbrev S1 : Shape := ⟨1, ![1]⟩
abbrev S_ : Shape := ⟨0, ![]⟩
abbrev S128x1 : Shape := ⟨2, ![128, 1]⟩
abbrev S128x5 : Shape := ⟨2, ![128, 5]⟩
abbrev S1x1x128 : Shape := ⟨3, ![1, 1, 128]⟩
abbrev S4096x128x1 : Shape := ⟨3, ![4096, 128, 1]⟩
abbrev S1x1x1 : Shape := ⟨3, ![1, 1, 1]⟩
abbrev S4096x1 : Shape := ⟨2, ![4096, 1]⟩
abbrev S1x128x5 : Shape := ⟨3, ![1, 128, 5]⟩
abbrev S4096x128x5 : Shape := ⟨3, ![4096, 128, 5]⟩
abbrev S4096x5 : Shape := ⟨2, ![4096, 5]⟩

abbrev nBuf : Space → Nat
  | .hbm => 137
  | .vmem => 0
  | .smem => 0
  | _ => 0

abbrev hbmTy0_0 (i : Nat) : BufTy := match i % 128 with
  | 0 => ⟨S4096x128x128, .f32⟩
  | 1 => ⟨S128x3, .f32⟩
  | 2 => ⟨S4096, .i32⟩
  | 3 => ⟨S128, .i32⟩
  | 4 => ⟨S128x128, .f32⟩
  | 5 => ⟨S128, .f32⟩
  | 6 => ⟨S1x128, .f32⟩
  | 7 => ⟨S1, .f32⟩
  | 8 => ⟨S128x128, .f32⟩
  | 9 => ⟨S128, .f32⟩
  | 10 => ⟨S1x128, .f32⟩
  | 11 => ⟨S1, .f32⟩
  | 12 => ⟨S128x3, .f32⟩
  | 13 => ⟨S_, .f32⟩
  | 14 => ⟨S128, .f32⟩
  | 15 => ⟨S128x1, .f32⟩
  | 16 => ⟨S128x1, .f32⟩
  | 17 => ⟨S128x3, .f32⟩
  | 18 => ⟨S128x3, .f32⟩
  | 19 => ⟨S128x1, .f32⟩
  | 20 => ⟨S128, .f32⟩
  | 21 => ⟨S128x1, .f32⟩
  | 22 => ⟨S128, .f32⟩
  | 23 => ⟨S128x1, .f32⟩
  | 24 => ⟨S128, .f32⟩
  | 25 => ⟨S_, .f32⟩
  | 26 => ⟨S128, .f32⟩
  | 27 => ⟨S128, .f32⟩
  | 28 => ⟨S128, .f32⟩
  | 29 => ⟨S_, .f32⟩
  | 30 => ⟨S128, .f32⟩
  | 31 => ⟨S128, .f32⟩
  | 32 => ⟨S128, .f32⟩
  | 33 => ⟨S128, .f32⟩
  | 34 => ⟨S128, .f32⟩
  | 35 => ⟨S128, .f32⟩
  | 36 => ⟨S128, .f32⟩
  | 37 => ⟨S_, .f32⟩
  | 38 => ⟨S128, .f32⟩
  | 39 => ⟨S128, .f32⟩
  | 40 => ⟨S128, .f32⟩
  | 41 => ⟨S_, .f32⟩
  | 42 => ⟨S128, .f32⟩
  | 43 => ⟨S128, .f32⟩
  | 44 => ⟨S_, .f32⟩
  | 45 => ⟨S128, .f32⟩
  | 46 => ⟨S128, .f32⟩
  | 47 => ⟨S128, .f32⟩
  | 48 => ⟨S128, .f32⟩
  | 49 => ⟨S128, .f32⟩
  | 50 => ⟨S128, .f32⟩
  | 51 => ⟨S_, .f32⟩
  | 52 => ⟨S128, .f32⟩
  | 53 => ⟨S128, .f32⟩
  | 54 => ⟨S128x1, .f32⟩
  | 55 => ⟨S128x1, .f32⟩
  | 56 => ⟨S128x1, .f32⟩
  | 57 => ⟨S128x1, .f32⟩
  | 58 => ⟨S128x1, .f32⟩
  | 59 => ⟨S128x5, .f32⟩
  | 60 => ⟨S_, .f32⟩
  | 61 => ⟨S128x5, .f32⟩
  | 62 => ⟨S128x5, .f32⟩
  | 63 => ⟨S128x128, .f32⟩
  | 64 => ⟨S4096x128x128, .f32⟩
  | 65 => ⟨S1x1x128, .f32⟩
  | 66 => ⟨S4096x128x128, .f32⟩
  | 67 => ⟨S4096x128x128, .f32⟩
  | 68 => ⟨S4096x128x128, .f32⟩
  | 69 => ⟨S4096x128x128, .f32⟩
  | 70 => ⟨S_, .f32⟩
  | 71 => ⟨S4096x128x128, .f32⟩
  | 72 => ⟨S4096x128x128, .f32⟩
  | 73 => ⟨S_, .f32⟩
  | 74 => ⟨S4096x128x128, .f32⟩
  | 75 => ⟨S4096x128x128, .f32⟩
  | 76 => ⟨S4096x128x128, .f32⟩
  | 77 => ⟨S128x1, .f32⟩
  | 78 => ⟨S4096x128x1, .f32⟩
  | 79 => ⟨S1x1x1, .f32⟩
  | 80 => ⟨S4096x128x1, .f32⟩
  | 81 => ⟨S4096x128x1, .f32⟩
  | 82 => ⟨S_, .f32⟩
  | 83 => ⟨S4096x1, .f32⟩
  | 84 => ⟨S_, .f32⟩
  | 85 => ⟨S4096x1, .f32⟩
  | 86 => ⟨S4096x1, .f32⟩
  | 87 => ⟨S_, .f32⟩
  | 88 => ⟨S4096, .f32⟩
  | 89 => ⟨S_, .f32⟩
  | 90 => ⟨S128, .f32⟩
  | 91 => ⟨S4096x1, .i32⟩
  | 92 => ⟨S128, .f32⟩
  | 93 => ⟨S_, .f32⟩
  | 94 => ⟨S128, .f32⟩
  | 95 => ⟨S128, .f32⟩
  | 96 => ⟨S4096, .f32⟩
  | 97 => ⟨S_, .f32⟩
  | 98 => ⟨S128, .f32⟩
  | 99 => ⟨S4096x1, .i32⟩
  | 100 => ⟨S128, .f32⟩
  | 101 => ⟨S128, .f32⟩
  | 102 => ⟨S128x128, .f32⟩
  | 103 => ⟨S4096x128x128, .f32⟩
  | 104 => ⟨S1x1x128, .f32⟩
  | 105 => ⟨S4096x128x128, .f32⟩
  | 106 => ⟨S4096x128x128, .f32⟩
  | 107 => ⟨S4096x128x128, .f32⟩
  | 108 => ⟨S4096x128x128, .f32⟩
  | 109 => ⟨S_, .f32⟩
  | 110 => ⟨S4096x128x128, .f32⟩
  | 111 => ⟨S4096x128x128, .f32⟩
  | 112 => ⟨S_, .f32⟩
  | 113 => ⟨S4096x128x128, .f32⟩
  | 114 => ⟨S4096x128x128, .f32⟩
  | 115 => ⟨S4096x128x128, .f32⟩
  | 116 => ⟨S128x1, .f32⟩
  | 117 => ⟨S4096x128x1, .f32⟩
  | 118 => ⟨S1x1x1, .f32⟩
  | 119 => ⟨S4096x128x1, .f32⟩
  | 120 => ⟨S4096x128x1, .f32⟩
  | 121 => ⟨S1x128x5, .f32⟩
  | 122 => ⟨S4096x128x5, .f32⟩
  | 123 => ⟨S4096x128x5, .f32⟩
  | 124 => ⟨S4096x128x5, .f32⟩
  | 125 => ⟨S_, .f32⟩
  | 126 => ⟨S4096x5, .f32⟩
  | 127 => ⟨S_, .f32⟩
  | _ => ⟨S4096x128x128, .f32⟩

abbrev hbmTy0_1 (i : Nat) : BufTy := match i % 128 with
  | 0 => ⟨S4096x5, .f32⟩
  | 1 => ⟨S4096x5, .f32⟩
  | 2 => ⟨S_, .f32⟩
  | 3 => ⟨S128x5, .f32⟩
  | 4 => ⟨S4096x1, .i32⟩
  | 5 => ⟨S128x5, .f32⟩
  | 6 => ⟨S128x1, .f32⟩
  | 7 => ⟨S128x5, .f32⟩
  | 8 => ⟨S128x5, .f32⟩
  | _ => ⟨S4096x128x128, .f32⟩

abbrev hbmTy (i : Nat) : BufTy := match i / 128 with
  | 0 => hbmTy0_0 i
  | 1 => hbmTy0_1 i
  | _ => ⟨S4096x128x128, .f32⟩

abbrev bufTy : (tb : Table) → Fin (tcTables nBuf tb) → BufTy
  | .hbm, ⟨i, _⟩ => hbmTy i
  | _, _ => ⟨S4096x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_call0_v2 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_4 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_5 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_call1_v0 : Ref sig .tc := ⟨.hbm, 68, rfl⟩
abbrev main_call1_v1 : Ref sig .tc := ⟨.hbm, 69, rfl⟩
abbrev main_call1_cst : Ref sig .tc := ⟨.hbm, 70, rfl⟩
abbrev main_call1_v2 : Ref sig .tc := ⟨.hbm, 71, rfl⟩
abbrev main_call1_v3 : Ref sig .tc := ⟨.hbm, 72, rfl⟩
abbrev main_call1_cst_0 : Ref sig .tc := ⟨.hbm, 73, rfl⟩
abbrev main_call1_v4 : Ref sig .tc := ⟨.hbm, 74, rfl⟩
abbrev main_call1_v5 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_6 : Ref sig .tc := ⟨.hbm, 82, rfl⟩
abbrev main_v51 : Ref sig .tc := ⟨.hbm, 83, rfl⟩
abbrev main_cst_7 : Ref sig .tc := ⟨.hbm, 84, rfl⟩
abbrev main_v52 : Ref sig .tc := ⟨.hbm, 85, rfl⟩
abbrev main_v53 : Ref sig .tc := ⟨.hbm, 86, rfl⟩
abbrev main_cst_8 : Ref sig .tc := ⟨.hbm, 87, rfl⟩
abbrev main_v54 : Ref sig .tc := ⟨.hbm, 88, rfl⟩
abbrev main_cst_9 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_10 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_11 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_call2_v0 : Ref sig .tc := ⟨.hbm, 107, rfl⟩
abbrev main_call2_v1 : Ref sig .tc := ⟨.hbm, 108, rfl⟩
abbrev main_call2_cst : Ref sig .tc := ⟨.hbm, 109, rfl⟩
abbrev main_call2_v2 : Ref sig .tc := ⟨.hbm, 110, rfl⟩
abbrev main_call2_v3 : Ref sig .tc := ⟨.hbm, 111, rfl⟩
abbrev main_call2_cst_0 : Ref sig .tc := ⟨.hbm, 112, rfl⟩
abbrev main_call2_v4 : Ref sig .tc := ⟨.hbm, 113, rfl⟩
abbrev main_call2_v5 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_cst_12 : Ref sig .tc := ⟨.hbm, 125, rfl⟩
abbrev main_v80 : Ref sig .tc := ⟨.hbm, 126, rfl⟩
abbrev main_cst_13 : Ref sig .tc := ⟨.hbm, 127, rfl⟩
abbrev main_v81 : Ref sig .tc := ⟨.hbm, 128, rfl⟩
abbrev main_v82 : Ref sig .tc := ⟨.hbm, 129, rfl⟩
abbrev main_cst_14 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩

abbrev nD : Nat := 1
abbrev τ : Topo := Topo.v7x

variable {F : FTy → Type} [FloatOps F]
-- ==== Proof.BodyIdeal.lean ====
/-
  The region of `KernelIdeal`: one grid point's body, run once per control case (the first point, a middle point, the last point), and
  what it leaves in the accumulator named as a function of what it found there. Everything holds for every value instance `F`.
-/
module

public import proofs.«01_k».proof.Proof.Gen.KernelIdeal.Frame
public import proofs.«01_k».proof.Proof.Gen.KernelIdeal.Skeleton
public import Idealize.ShloMosaic.Lib.Claim
public import Idealize.ShloMosaic.Lib.Pipeline.Value
public import Idealize.ShloMosaic.Lib.ValueIdxCoords

@[expose] public section

set_option maxRecDepth 16384

noncomputable section

namespace Cert.KernelIdeal.Seg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The accumulator's steps -/

/-- A word below 128 names a row of the accumulator. -/
theorem chk_of_lt (w : BitVec 32) (hw : w.toNat < 128) : k0_chk1 w := by
  unfold k0_chk1 k0_off2; intro a; fin_cases a <;> simp [Scalar.indexCast] <;> omega

/-- The two zero offsets of a whole-block access. -/
theorem hz2 : (![0, 0] : Fin 2 → Nat) = fun _ => 0 := funext fun a => by fin_cases a <;> rfl

/-- The accumulator's row that the word `w` names. -/
abbrev rowRect (w : BitVec 32) (hw : k0_chk1 w) : Rect S128x16 := Rect.unit (s := S128x16) (k0_off2 w) S1x16.size hw

open Classical in
/-- The accumulator after `r` is added to the row that the word `w` names (unchanged where the word names no row). -/
def addRow (w : BitVec 32) (r : FVec F S1x16 .f32) (X : Vec F S128x16 .f32) : Vec F S128x16 .f32 :=
  if hw : k0_chk1 w then (rowRect w hw).overlay X (k0_pay5 r (View.ld (Val := Elt F) X (rowRect w hw))) else X

/-- The row one atom adds, from its 128 hidden rows `zs` and the four small operands. -/
def rowV (zs : FVec F S128x256 .f32) (x4 : Vec F S128x8 .f32) (x5 : Vec F S8x256 .f32) (x6 : Vec F S8x16 .f32) (x7 : Vec F S1x16 .f32) : FVec F S1x16 .f32 :=
  addf (matmul dot_S8x1_S8x16_S1x16_0_0_1_1_n_n none
      (shapeCast S8x1 (multiReduction .add [1] S8 (mulf (matmul dot_S128x8_S128x256_S8x256_0_0_1_1_n_n none (shapeCast S128x8 x4 shapeCasts_S128x8_S128x8) zs
        (constant S8x256 .f32 0x00000000#32)) (shapeCast S8x256 x5 shapeCasts_S8x256_S8x256)) 0x00000000#32 reduces_S8x256_S8 (.inl rfl) rfl) shapeCasts_S8_S8x1)
      (shapeCast S8x16 x6 shapeCasts_S8x16_S8x16) (constant S1x16 .f32 0x00000000#32))
    (shapeCast S1x16 x7 shapeCasts_S1x16_S1x16)

/-- The word of atom `a` of grid point `i`. -/
def wordAt (x8 : Vec F S4096 .i32) (i : grid0.Coords) (a : Fin 8) : BitVec 32 :=
  x8 (ValueIdx.ix1 ⟨8 * (i 0).val + a.val, by have h : (i 0).val < 512 := (i 0).isLt; have := a.isLt; omega⟩)

/-- Atom `a`'s hidden rows out of a point's 1024. -/
def zAt (z : FVec F S1024x256 .f32) (a : Fin 8) : FVec F S128x256 .f32 :=
  match a with
  | 0 => extractStridedSlice S128x256 ![0, 0] z slices_S1024x256_o0_0_S128x256
  | 1 => extractStridedSlice S128x256 ![128, 0] z slices_S1024x256_o128_0_S128x256
  | 2 => extractStridedSlice S128x256 ![256, 0] z slices_S1024x256_o256_0_S128x256
  | 3 => extractStridedSlice S128x256 ![384, 0] z slices_S1024x256_o384_0_S128x256
  | 4 => extractStridedSlice S128x256 ![512, 0] z slices_S1024x256_o512_0_S128x256
  | 5 => extractStridedSlice S128x256 ![640, 0] z slices_S1024x256_o640_0_S128x256
  | 6 => extractStridedSlice S128x256 ![768, 0] z slices_S1024x256_o768_0_S128x256
  | 7 => extractStridedSlice S128x256 ![896, 0] z slices_S1024x256_o896_0_S128x256

/-- Atom `a`'s row at a grid point, from the point's blocks. -/
def rowAt (x1 : Vec F S1024x128 .f32) (x2 : Vec F S128x256 .f32) (x3 : Vec F S1x256 .f32) (x4 : Vec F S128x8 .f32) (x5 : Vec F S8x256 .f32)
    (x6 : Vec F S8x16 .f32) (x7 : Vec F S1x16 .f32) (a : Fin 8) : FVec F S1x16 .f32 :=
  rowV (zAt (k0_pay3 x1 x2 x3) a) x4 x5 x6 x7

/-- The accumulator after a grid point's eight atoms, in order. -/
def eight (x1 : Vec F S1024x128 .f32) (x2 : Vec F S128x256 .f32) (x3 : Vec F S1x256 .f32) (x4 : Vec F S128x8 .f32) (x5 : Vec F S8x256 .f32)
    (x6 : Vec F S8x16 .f32) (x7 : Vec F S1x16 .f32) (w : Fin 8 → BitVec 32) (X : Vec F S128x16 .f32) : Vec F S128x16 .f32 :=
  addRow (w 7) (rowAt x1 x2 x3 x4 x5 x6 x7 7) (addRow (w 6) (rowAt x1 x2 x3 x4 x5 x6 x7 6)
  (addRow (w 5) (rowAt x1 x2 x3 x4 x5 x6 x7 5) (addRow (w 4) (rowAt x1 x2 x3 x4 x5 x6 x7 4)
  (addRow (w 3) (rowAt x1 x2 x3 x4 x5 x6 x7 3) (addRow (w 2) (rowAt x1 x2 x3 x4 x5 x6 x7 2)
  (addRow (w 1) (rowAt x1 x2 x3 x4 x5 x6 x7 1) (addRow (w 0) (rowAt x1 x2 x3 x4 x5 x6 x7 0) X)))))))

/-! ## Reading the run's stores -/

/-- A store through a rectangle reads back as the payload laid over what was there. -/
theorem read_cons {sp : Space} (v : View sig .tc sp S128x16 .f32) (f : v.ty.Contents (Elt F)) (r : Rect S128x16) (w : r.shape.Idx → Elt F .f32)
    (L : List (View.Piece (Elt F) S128x16 .f32)) :
    v.read (Elt F) (v.writes (Elt F) f (⟨r, w⟩ :: L)) = r.overlay (v.read (Elt F) (v.writes (Elt F) f L)) w := by
  funext y
  by_cases hy : y ∈ r.set
  · obtain ⟨x, rfl⟩ : ∃ x, r.emb x = y := r.exists_idx_of_mem hy
    rw [View.read_writes_cons_emb, Rect.overlay_emb]
  · rw [Rect.overlay_of_not_mem _ _ _ hy, View.writes_cons, View.read_slice_write_of_not_mem r _ _ _ (by rwa [Rect.map_emb_univ])]

/-- A row's read-add-store is `addRow`. -/
theorem read_addRow {sp : Space} (v : View sig .tc sp S128x16 .f32) (f : v.ty.Contents (Elt F)) (w w' : BitVec 32) (e : w' = w) (hw : k0_chk1 w')
    (r : FVec F S1x16 .f32) (L : List (View.Piece (Elt F) S128x16 .f32)) (p : View.Piece (Elt F) S128x16 .f32) (X : Vec F S128x16 .f32)
    (hp : p = ⟨rowRect w' hw, k0_pay5 r (v.readAt (Elt F) (rowRect w' hw).toLoadRect (v.writes (Elt F) f L))⟩)
    (hL : v.read (Elt F) (v.writes (Elt F) f L) = X) :
    v.read (Elt F) (v.writes (Elt F) f (p :: L)) = addRow w r X := by
  subst hp e hL
  rw [read_cons, addRow, dif_pos hw]; rfl

/-- A store over the whole block reads back as its payload. -/
theorem read_whole {sp : Space} (v : View sig .tc sp S128x16 .f32) (f : v.ty.Contents (Elt F)) (inb) (w : Vec F S128x16 .f32)
    (L : List (View.Piece (Elt F) S128x16 .f32)) :
    v.read (Elt F) (v.writes (Elt F) f ((⟨Rect.unit (s := S128x16) ![0, 0] S128x16.size inb, w⟩ : View.Piece (Elt F) S128x16 .f32) :: L)) = w := by
  rw [read_cons]
  funext y
  have h : (Rect.unit (s := S128x16) ![0, 0] S128x16.size inb).emb y = y := by
    funext a; apply Fin.ext; fin_cases a <;> simp [Rect.emb, Rect.unit]
  conv_lhs => rw [← h]
  rw [Rect.overlay_emb]

/-- The word the body loads for atom `a` is the block's word `8 i + a`. -/
theorem word_eq {sp : Space} (v : View sig .tc sp S4096 .i32) (f : v.ty.Contents (Elt F)) (i : grid0.Coords) (a : Fin 8) (off : Fin 1 → Nat)
    (ho : off = ![8 * (i 0).val + a.val]) (inb) (h1) :
    v.readAt (Elt F) (Rect.unit (s := S4096) off S1.size inb).toLoadRect f (Shape.Idx.first (s := S1) h1) = wordAt (F := F) (v.read (Elt F) f) i a := by
  subst ho
  rw [View.readAt_eq_ld]
  show v.read (Elt F) f _ = v.read (Elt F) f _
  congr 1
  funext b; apply Fin.ext; fin_cases b
  show 8 * (i 0).val + a.val + 0 * 1 = _
  simp

/-- A load of a whole block reads the block. -/
theorem readAt_whole {sp : Space} {S : Shape} {e : EltTy} (v : View sig .tc sp S e) (f : v.ty.Contents (Elt F)) {off : Fin S.rank → Nat}
    (h : off = fun _ => 0) (inb) : v.readAt (Elt F) (Rect.unit (s := S) off S.size inb).toLoadRect f = v.read (Elt F) f := by
  rw [View.readAt_eq_ld]; exact View.ld_unit_zero h inb _

/-- The branch on the first point. -/
abbrev atFirst (i : grid0.Coords) : Prop := (Scalar.cmpi .ne (Scalar.extui (Scalar.cmpi .eq (BitVec.ofNat 32 (i 0).val) 0#32) : BitVec 32) 0#32 : BitVec 1) = 1#1
/-- The branch on the last point. -/
abbrev atLast (i : grid0.Coords) : Prop := (Scalar.cmpi .ne (Scalar.extui (Scalar.cmpi .eq (BitVec.ofNat 32 (i 0).val) 511#32) : BitVec 32) 0#32 : BitVec 1) = 1#1

/-- A middle point: the eight rows are added to what the accumulator held. -/
theorem sound_mid (c : Dev nD) (i : grid0.Coords) (h0 : ¬ atFirst i) (h1 : ¬ atLast i) (E : Set ℕ)
    (arg1 : Memref sig .tc .vmem S1024x128 .f32) (harg1 : arg1.IsWhole) (arg2 : Memref sig .tc .vmem S128x256 .f32) (harg2 : arg2.IsWhole)
    (arg3 : Memref sig .tc .vmem S1x256 .f32) (harg3 : arg3.IsWhole) (arg4 : Memref sig .tc .vmem S128x8 .f32) (harg4 : arg4.IsWhole)
    (arg5 : Memref sig .tc .vmem S8x256 .f32) (harg5 : arg5.IsWhole) (arg6 : Memref sig .tc .vmem S8x16 .f32) (harg6 : arg6.IsWhole)
    (arg7 : Memref sig .tc .vmem S1x16 .f32) (harg7 : arg7.IsWhole) (arg8 : Memref sig .tc .smem S4096 .i32) (harg8 : arg8.IsWhole)
    (arg9 : Memref sig .tc .vmem S128x16 .f32) (harg9 : arg9.IsWhole)
    (x1 : Vec F S1024x128 .f32) (x2 : Vec F S128x256 .f32) (x3 : Vec F S1x256 .f32) (x4 : Vec F S128x8 .f32) (x5 : Vec F S8x256 .f32)
    (x6 : Vec F S8x16 .f32) (x7 : Vec F S1x16 .f32) (x8 : Vec F S4096 .i32) (X : Vec F S128x16 .f32)
    (hb : ∀ j, (x8 j : BitVec 32).toNat < 128) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ owns (c : Thread nD τ) arg9 fullShare X
        ∗ (iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8
        ∗ owns (c : Thread nD τ) arg9 fullShare (eight x1 x2 x3 x4 x5 x6 x7 (wordAt (F := F) x8 i) X)) -∗ K ⟨⟩))
      ⊢ wp frame (wpE (defs₀ (F := F)) Variants.none c none) E
          (cc0__mlp_body i arg1 harg1 arg2 harg2 arg3 harg3 arg4 harg4 arg5 harg5 arg6 harg6 arg7 harg7 arg8 harg8 arg9 harg9) K := by
  simp only [cc0__mlp_body_eq_skeleton]; unfold cc0__mlp_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf1 hf2 hf3 hf4 hf5 hf6 hf7 hf8 hf9
  sl_exec (disch := first | exact h0 | exact h1 | exact chk_of_lt _ (hb _))
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  rw [show arg1.view.read (Elt F) f1 = arg1.view.readAt (Elt F) (Rect.unit (s := S1024x128) ![0, 0] S1024x128.size inb_S1024x128_S1024x128_0_0).toLoadRect f1 from
    (readAt_whole _ _ hz2 _).symm]
  rw [show arg2.view.read (Elt F) f2 = arg2.view.readAt (Elt F) (Rect.unit (s := S128x256) ![0, 0] S128x256.size inb_S128x256_S128x256_0_0).toLoadRect f2 from
    (readAt_whole _ _ hz2 _).symm]
  rw [show arg3.view.read (Elt F) f3 = arg3.view.readAt (Elt F) (Rect.unit (s := S1x256) ![0, 0] S1x256.size inb_S1x256_S1x256_0_0).toLoadRect f3 from
    (readAt_whole _ _ hz2 _).symm]
  rw [show arg4.view.read (Elt F) f4 = arg4.view.readAt (Elt F) (Rect.unit (s := S128x8) ![0, 0] S128x8.size inb_S128x8_S128x8_0_0).toLoadRect f4 from
    (readAt_whole _ _ hz2 _).symm]
  rw [show arg5.view.read (Elt F) f5 = arg5.view.readAt (Elt F) (Rect.unit (s := S8x256) ![0, 0] S8x256.size inb_S8x256_S8x256_0_0).toLoadRect f5 from
    (readAt_whole _ _ hz2 _).symm]
  rw [show arg6.view.read (Elt F) f6 = arg6.view.readAt (Elt F) (Rect.unit (s := S8x16) ![0, 0] S8x16.size inb_S8x16_S8x16_0_0).toLoadRect f6 from
    (readAt_whole _ _ hz2 _).symm]
  rw [show arg7.view.read (Elt F) f7 = arg7.view.readAt (Elt F) (Rect.unit (s := S1x16) ![0, 0] S1x16.size inb_S1x16_S1x16_0_0).toLoadRect f7 from
    (readAt_whole _ _ hz2 _).symm]
  unfold eight
  refine read_addRow arg9.view _ _ _ (word_eq arg8.view f8 i 7 _ (k0_off15_eq i) _ _) _ _ _ _ _ rfl ?_
  refine read_addRow arg9.view _ _ _ (word_eq arg8.view f8 i 6 _ (k0_off13_eq i) _ _) _ _ _ _ _ rfl ?_
  refine read_addRow arg9.view _ _ _ (word_eq arg8.view f8 i 5 _ (k0_off11_eq i) _ _) _ _ _ _ _ rfl ?_
  refine read_addRow arg9.view _ _ _ (word_eq arg8.view f8 i 4 _ (k0_off9_eq i) _ _) _ _ _ _ _ rfl ?_
  refine read_addRow arg9.view _ _ _ (word_eq arg8.view f8 i 3 _ (k0_off7_eq i) _ _) _ _ _ _ _ rfl ?_
  refine read_addRow arg9.view _ _ _ (word_eq arg8.view f8 i 2 _ (k0_off5_eq i) _ _) _ _ _ _ _ rfl ?_
  refine read_addRow arg9.view _ _ _ (word_eq arg8.view f8 i 1 _ (k0_off3_eq i) _ _) _ _ _ _ _ rfl ?_
  refine read_addRow arg9.view _ _ _ (word_eq arg8.view f8 i 0 _ (k0_off1_eq i) _ _) _ _ _ _ _ rfl ?_
  rfl

/-- The first point: the accumulator is zeroed, then the eight rows are added. -/
theorem sound_first (c : Dev nD) (i : grid0.Coords) (h0 : atFirst i) (h1 : ¬ atLast i) (E : Set ℕ)
    (arg1 : Memref sig .tc .vmem S1024x128 .f32) (harg1 : arg1.IsWhole) (arg2 : Memref sig .tc .vmem S128x256 .f32) (harg2 : arg2.IsWhole)
    (arg3 : Memref sig .tc .vmem S1x256 .f32) (harg3 : arg3.IsWhole) (arg4 : Memref sig .tc .vmem S128x8 .f32) (harg4 : arg4.IsWhole)
    (arg5 : Memref sig .tc .vmem S8x256 .f32) (harg5 : arg5.IsWhole) (arg6 : Memref sig .tc .vmem S8x16 .f32) (harg6 : arg6.IsWhole)
    (arg7 : Memref sig .tc .vmem S1x16 .f32) (harg7 : arg7.IsWhole) (arg8 : Memref sig .tc .smem S4096 .i32) (harg8 : arg8.IsWhole)
    (arg9 : Memref sig .tc .vmem S128x16 .f32) (harg9 : arg9.IsWhole)
    (x1 : Vec F S1024x128 .f32) (x2 : Vec F S128x256 .f32) (x3 : Vec F S1x256 .f32) (x4 : Vec F S128x8 .f32) (x5 : Vec F S8x256 .f32)
    (x6 : Vec F S8x16 .f32) (x7 : Vec F S1x16 .f32) (x8 : Vec F S4096 .i32) (X : Vec F S128x16 .f32)
    (hb : ∀ j, (x8 j : BitVec 32).toNat < 128) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ owns (c : Thread nD τ) arg9 fullShare X
        ∗ (iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8
        ∗ owns (c : Thread nD τ) arg9 fullShare (eight x1 x2 x3 x4 x5 x6 x7 (wordAt (F := F) x8 i) (k0_pay2 (F := F)))) -∗ K ⟨⟩))
      ⊢ wp frame (wpE (defs₀ (F := F)) Variants.none c none) E
          (cc0__mlp_body i arg1 harg1 arg2 harg2 arg3 harg3 arg4 harg4 arg5 harg5 arg6 harg6 arg7 harg7 arg8 harg8 arg9 harg9) K := by
  simp only [cc0__mlp_body_eq_skeleton]; unfold cc0__mlp_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf1 hf2 hf3 hf4 hf5 hf6 hf7 hf8 hf9
  sl_exec (disch := first | exact h0 | exact h1 | exact chk_of_lt _ (hb _))
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  rw [show arg1.view.read (Elt F) f1 = arg1.view.readAt (Elt F) (Rect.unit (s := S1024x128) ![0, 0] S1024x128.size inb_S1024x128_S1024x128_0_0).toLoadRect f1 from
    (readAt_whole _ _ hz2 _).symm]
  rw [show arg2.view.read (Elt F) f2 = arg2.view.readAt (Elt F) (Rect.unit (s := S128x256) ![0, 0] S128x256.size inb_S128x256_S128x256_0_0).toLoadRect f2 from
    (readAt_whole _ _ hz2 _).symm]
  rw [show arg3.view.read (Elt F) f3 = arg3.view.readAt (Elt F) (Rect.unit (s := S1x256) ![0, 0] S1x256.size inb_S1x256_S1x256_0_0).toLoadRect f3 from
    (readAt_whole _ _ hz2 _).symm]
  rw [show arg4.view.read (Elt F) f4 = arg4.view.readAt (Elt F) (Rect.unit (s := S128x8) ![0, 0] S128x8.size inb_S128x8_S128x8_0_0).toLoadRect f4 from
    (readAt_whole _ _ hz2 _).symm]
  rw [show arg5.view.read (Elt F) f5 = arg5.view.readAt (Elt F) (Rect.unit (s := S8x256) ![0, 0] S8x256.size inb_S8x256_S8x256_0_0).toLoadRect f5 from
    (readAt_whole _ _ hz2 _).symm]
  rw [show arg6.view.read (Elt F) f6 = arg6.view.readAt (Elt F) (Rect.unit (s := S8x16) ![0, 0] S8x16.size inb_S8x16_S8x16_0_0).toLoadRect f6 from
    (readAt_whole _ _ hz2 _).symm]
  rw [show arg7.view.read (Elt F) f7 = arg7.view.readAt (Elt F) (Rect.unit (s := S1x16) ![0, 0] S1x16.size inb_S1x16_S1x16_0_0).toLoadRect f7 from
    (readAt_whole _ _ hz2 _).symm]
  unfold eight
  refine read_addRow arg9.view _ _ _ (word_eq arg8.view f8 i 7 _ (k0_off15_eq i) _ _) _ _ _ _ _ rfl ?_
  refine read_addRow arg9.view _ _ _ (word_eq arg8.view f8 i 6 _ (k0_off13_eq i) _ _) _ _ _ _ _ rfl ?_
  refine read_addRow arg9.view _ _ _ (word_eq arg8.view f8 i 5 _ (k0_off11_eq i) _ _) _ _ _ _ _ rfl ?_
  refine read_addRow arg9.view _ _ _ (word_eq arg8.view f8 i 4 _ (k0_off9_eq i) _ _) _ _ _ _ _ rfl ?_
  refine read_addRow arg9.view _ _ _ (word_eq arg8.view f8 i 3 _ (k0_off7_eq i) _ _) _ _ _ _ _ rfl ?_
  refine read_addRow arg9.view _ _ _ (word_eq arg8.view f8 i 2 _ (k0_off5_eq i) _ _) _ _ _ _ _ rfl ?_
  refine read_addRow arg9.view _ _ _ (word_eq arg8.view f8 i 1 _ (k0_off3_eq i) _ _) _ _ _ _ _ rfl ?_
  refine read_addRow arg9.view _ _ _ (word_eq arg8.view f8 i 0 _ (k0_off1_eq i) _ _) _ _ _ _ _ rfl ?_
  exact read_whole _ _ _ _ _

/-- The last point: the eight rows are added, then every row is divided by its count. -/
theorem sound_last (c : Dev nD) (i : grid0.Coords) (h0 : ¬ atFirst i) (h1 : atLast i) (E : Set ℕ)
    (arg1 : Memref sig .tc .vmem S1024x128 .f32) (harg1 : arg1.IsWhole) (arg2 : Memref sig .tc .vmem S128x256 .f32) (harg2 : arg2.IsWhole)
    (arg3 : Memref sig .tc .vmem S1x256 .f32) (harg3 : arg3.IsWhole) (arg4 : Memref sig .tc .vmem S128x8 .f32) (harg4 : arg4.IsWhole)
    (arg5 : Memref sig .tc .vmem S8x256 .f32) (harg5 : arg5.IsWhole) (arg6 : Memref sig .tc .vmem S8x16 .f32) (harg6 : arg6.IsWhole)
    (arg7 : Memref sig .tc .vmem S1x16 .f32) (harg7 : arg7.IsWhole) (arg8 : Memref sig .tc .smem S4096 .i32) (harg8 : arg8.IsWhole)
    (arg9 : Memref sig .tc .vmem S128x16 .f32) (harg9 : arg9.IsWhole)
    (x1 : Vec F S1024x128 .f32) (x2 : Vec F S128x256 .f32) (x3 : Vec F S1x256 .f32) (x4 : Vec F S128x8 .f32) (x5 : Vec F S8x256 .f32)
    (x6 : Vec F S8x16 .f32) (x7 : Vec F S1x16 .f32) (x8 : Vec F S4096 .i32) (X : Vec F S128x16 .f32)
    (hb : ∀ j, (x8 j : BitVec 32).toNat < 128) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ owns (c : Thread nD τ) arg9 fullShare X
        ∗ (iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8
        ∗ owns (c : Thread nD τ) arg9 fullShare (k0_pay1 (eight x1 x2 x3 x4 x5 x6 x7 (wordAt (F := F) x8 i) X))) -∗ K ⟨⟩))
      ⊢ wp frame (wpE (defs₀ (F := F)) Variants.none c none) E
          (cc0__mlp_body i arg1 harg1 arg2 harg2 arg3 harg3 arg4 harg4 arg5 harg5 arg6 harg6 arg7 harg7 arg8 harg8 arg9 harg9) K := by
  simp only [cc0__mlp_body_eq_skeleton]; unfold cc0__mlp_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf1 hf2 hf3 hf4 hf5 hf6 hf7 hf8 hf9
  sl_exec (disch := first | exact h0 | exact h1 | exact chk_of_lt _ (hb _))
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  refine (read_whole _ _ _ _ _).trans ?_
  refine congrArg (k0_pay1 (F := F)) ?_
  refine (readAt_whole _ _ hz2 _).trans ?_
  rw [show arg1.view.read (Elt F) f1 = arg1.view.readAt (Elt F) (Rect.unit (s := S1024x128) ![0, 0] S1024x128.size inb_S1024x128_S1024x128_0_0).toLoadRect f1 from
    (readAt_whole _ _ hz2 _).symm]
  rw [show arg2.view.read (Elt F) f2 = arg2.view.readAt (Elt F) (Rect.unit (s := S128x256) ![0, 0] S128x256.size inb_S128x256_S128x256_0_0).toLoadRect f2 from
    (readAt_whole _ _ hz2 _).symm]
  rw [show arg3.view.read (Elt F) f3 = arg3.view.readAt (Elt F) (Rect.unit (s := S1x256) ![0, 0] S1x256.size inb_S1x256_S1x256_0_0).toLoadRect f3 from
    (readAt_whole _ _ hz2 _).symm]
  rw [show arg4.view.read (Elt F) f4 = arg4.view.readAt (Elt F) (Rect.unit (s := S128x8) ![0, 0] S128x8.size inb_S128x8_S128x8_0_0).toLoadRect f4 from
    (readAt_whole _ _ hz2 _).symm]
  rw [show arg5.view.read (Elt F) f5 = arg5.view.readAt (Elt F) (Rect.unit (s := S8x256) ![0, 0] S8x256.size inb_S8x256_S8x256_0_0).toLoadRect f5 from
    (readAt_whole _ _ hz2 _).symm]
  rw [show arg6.view.read (Elt F) f6 = arg6.view.readAt (Elt F) (Rect.unit (s := S8x16) ![0, 0] S8x16.size inb_S8x16_S8x16_0_0).toLoadRect f6 from
    (readAt_whole _ _ hz2 _).symm]
  rw [show arg7.view.read (Elt F) f7 = arg7.view.readAt (Elt F) (Rect.unit (s := S1x16) ![0, 0] S1x16.size inb_S1x16_S1x16_0_0).toLoadRect f7 from
    (readAt_whole _ _ hz2 _).symm]
  unfold eight
  refine read_addRow arg9.view _ _ _ (word_eq arg8.view f8 i 7 _ (k0_off15_eq i) _ _) _ _ _ _ _ rfl ?_
  refine read_addRow arg9.view _ _ _ (word_eq arg8.view f8 i 6 _ (k0_off13_eq i) _ _) _ _ _ _ _ rfl ?_
  refine read_addRow arg9.view _ _ _ (word_eq arg8.view f8 i 5 _ (k0_off11_eq i) _ _) _ _ _ _ _ rfl ?_
  refine read_addRow arg9.view _ _ _ (word_eq arg8.view f8 i 4 _ (k0_off9_eq i) _ _) _ _ _ _ _ rfl ?_
  refine read_addRow arg9.view _ _ _ (word_eq arg8.view f8 i 3 _ (k0_off7_eq i) _ _) _ _ _ _ _ rfl ?_
  refine read_addRow arg9.view _ _ _ (word_eq arg8.view f8 i 2 _ (k0_off5_eq i) _ _) _ _ _ _ _ rfl ?_
  refine read_addRow arg9.view _ _ _ (word_eq arg8.view f8 i 1 _ (k0_off3_eq i) _ _) _ _ _ _ _ rfl ?_
  refine read_addRow arg9.view _ _ _ (word_eq arg8.view f8 i 0 _ (k0_off1_eq i) _ _) _ _ _ _ _ rfl ?_
  rfl

end Cert.KernelIdeal.Seg

end
-- ==== Proof.RegionIdeal.lean ====
/-
  The region of `KernelIdeal` over its 512 grid points: what the accumulator holds after each point, the pipeline's proof data, the
  launch, and the frame, all under the hypothesis that every word of `batch` is below 128.
-/
module

public import proofs.«01_k».proof.Proof.BodyIdeal

@[expose] public section

set_option maxRecDepth 16384

noncomputable section

namespace Cert.KernelIdeal.Seg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the accumulator holds -/

/-- The grid's point number `n`. -/
def pt (n : ℕ) : Fin cfg0.N := ⟨n % 512, Nat.mod_lt _ (by decide)⟩

/-- The grid point of a point's number is the point. -/
theorem pt_val (t : Fin cfg0.N) : pt t.val = t := Fin.ext (Nat.mod_eq_of_lt t.isLt)

/-- The accumulator after point `t`'s eight atoms. -/
def step (c : Dev nD) (t : Fin cfg0.N) (X : Vec F S128x16 .f32) : Vec F S128x16 .f32 :=
  eight (iblk m c 0 t) (iblk m c 1 t) (iblk m c 2 t) (iblk m c 3 t) (iblk m c 4 t) (iblk m c 5 t) (iblk m c 6 t) (wordAt (F := F) (iblk m c 7 t) (grid0.coords t)) X

/-- The accumulator after points `0 … n`, before any division. -/
def sums (c : Dev nD) : ℕ → Vec F S128x16 .f32
  | 0 => step m c (pt 0) (k0_pay2 (F := F))
  | n + 1 => step m c (pt (n + 1)) (sums c n)

/-- The accumulator as point `t` leaves it: the last point divides. -/
def acc (c : Dev nD) (t : Fin cfg0.N) : Vec F S128x16 .f32 :=
  if t.val = 511 then k0_pay1 (sums m c t.val) else sums m c t.val

/-- Before the last grid point the accumulator holds the running sums. -/
theorem acc_lt (c : Dev nD) (t : Fin cfg0.N) (h : t.val ≠ 511) : acc m c t = sums m c t.val := if_neg h

/-! ## The pipeline's proof data -/

/-- The arrays as the region finds them; each input's buffer at its block after the body, the output's at `acc`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => acc m c t
  Φ _ := Pipeline.ΦA spec0 c
  q _ := fullShare
  owed _ := 0

/-- The proof data's arrays are the contents at the region's entry. -/
theorem A_eq (c : Dev nD) (w : Fin cfg0.W) : (dats m 0 c).A w = V m c (Pipeline.arrRef spec0 w) := by
  dsimp only [dats]

/-- Window 0 keeps its block through a grid point. -/
theorem after0_0 (c : Dev nD) (t : Fin cfg0.N) : (dats m 0 c).after 0 t = iblk m c 0 t := by dsimp only [dats]
/-- Window 1 keeps its block through a grid point. -/
theorem after0_1 (c : Dev nD) (t : Fin cfg0.N) : (dats m 0 c).after 1 t = iblk m c 1 t := by dsimp only [dats]
/-- Window 2 keeps its block through a grid point. -/
theorem after0_2 (c : Dev nD) (t : Fin cfg0.N) : (dats m 0 c).after 2 t = iblk m c 2 t := by dsimp only [dats]
/-- Window 3 keeps its block through a grid point. -/
theorem after0_3 (c : Dev nD) (t : Fin cfg0.N) : (dats m 0 c).after 3 t = iblk m c 3 t := by dsimp only [dats]
/-- Window 4 keeps its block through a grid point. -/
theorem after0_4 (c : Dev nD) (t : Fin cfg0.N) : (dats m 0 c).after 4 t = iblk m c 4 t := by dsimp only [dats]
/-- Window 5 keeps its block through a grid point. -/
theorem after0_5 (c : Dev nD) (t : Fin cfg0.N) : (dats m 0 c).after 5 t = iblk m c 5 t := by dsimp only [dats]
/-- Window 6 keeps its block through a grid point. -/
theorem after0_6 (c : Dev nD) (t : Fin cfg0.N) : (dats m 0 c).after 6 t = iblk m c 6 t := by dsimp only [dats]
/-- Window 7 keeps its block through a grid point. -/
theorem after0_7 (c : Dev nD) (t : Fin cfg0.N) : (dats m 0 c).after 7 t = iblk m c 7 t := by dsimp only [dats]
/-- The output window holds the accumulator after a grid point. -/
theorem after0_8 (c : Dev nD) (t : Fin cfg0.N) : (dats m 0 c).after 8 t = acc m c t := by dsimp only [dats]
/-- Window 0 holds its block when a grid point starts. -/
theorem before0_0 (c : Dev nD) (t : Fin cfg0.N) (d) : (dats m 0 c).before 0 t d = iblk m c 0 t :=
  before0_0_of m (dats m 0 c) (A_eq m c 0) (after0_0 m c) t d
/-- Window 1 holds its block when a grid point starts. -/
theorem before0_1 (c : Dev nD) (t : Fin cfg0.N) (d) : (dats m 0 c).before 1 t d = iblk m c 1 t :=
  before0_1_of m (dats m 0 c) (A_eq m c 1) (after0_1 m c) t d
/-- Window 2 holds its block when a grid point starts. -/
theorem before0_2 (c : Dev nD) (t : Fin cfg0.N) (d) : (dats m 0 c).before 2 t d = iblk m c 2 t :=
  before0_2_of m (dats m 0 c) (A_eq m c 2) (after0_2 m c) t d
/-- Window 3 holds its block when a grid point starts. -/
theorem before0_3 (c : Dev nD) (t : Fin cfg0.N) (d) : (dats m 0 c).before 3 t d = iblk m c 3 t :=
  before0_3_of m (dats m 0 c) (A_eq m c 3) (after0_3 m c) t d
/-- Window 4 holds its block when a grid point starts. -/
theorem before0_4 (c : Dev nD) (t : Fin cfg0.N) (d) : (dats m 0 c).before 4 t d = iblk m c 4 t :=
  before0_4_of m (dats m 0 c) (A_eq m c 4) (after0_4 m c) t d
/-- Window 5 holds its block when a grid point starts. -/
theorem before0_5 (c : Dev nD) (t : Fin cfg0.N) (d) : (dats m 0 c).before 5 t d = iblk m c 5 t :=
  before0_5_of m (dats m 0 c) (A_eq m c 5) (after0_5 m c) t d
/-- Window 6 holds its block when a grid point starts. -/
theorem before0_6 (c : Dev nD) (t : Fin cfg0.N) (d) : (dats m 0 c).before 6 t d = iblk m c 6 t :=
  before0_6_of m (dats m 0 c) (A_eq m c 6) (after0_6 m c) t d
/-- Window 7 holds its block when a grid point starts. -/
theorem before0_7 (c : Dev nD) (t : Fin cfg0.N) (d) : (dats m 0 c).before 7 t d = iblk m c 7 t :=
  before0_7_of m (dats m 0 c) (A_eq m c 7) (after0_7 m c) t d

/-- Past the first point the accumulator's buffer holds the sums so far. -/
theorem before0_8 (c : Dev nD) (t : Fin cfg0.N) (ht : t.val ≠ 0) (d) : (dats m 0 c).before 8 t d = sums m c (t.val - 1) := by
  have hlt : t.val < 512 := t.isLt
  rw [Dat.before_out_kept (dats m 0 c) 8 rfl t ht (by
    rw [Bool.eq_false_iff]; intro h; have := (flush0_8 _).mp h; dsimp only at this; omega) (fun _ => rfl) (fun _ _ => rfl) d, after0_8]
  exact acc_lt m c _ (by dsimp only; omega)

/-! ## The body at a grid point -/

/-- The coordinate of grid point `t` is `t`. -/
theorem coord_val (t : Fin cfg0.N) : ((grid0.coords t) 0).val = t.val := by
  have h := Pipeline.Grid.coords_val (G := grid0) t 0 (S := 1) (B := 512) (by decide) rfl
  have ht : t.val < 512 := t.isLt
  rw [h]; omega

/-- A widened flag differs from zero exactly when the flag is set. -/
theorem flag_iff (b : Bool) : ((Scalar.cmpi .ne (Scalar.extui (BitVec.ofBool b) : BitVec 32) 0#32 : BitVec 1) = 1#1) ↔ b = true := by
  cases b <;> simp [Scalar.cmpi, Scalar.extui, IntOp.cmpi]

/-- The first branch is taken exactly at grid point 0. -/
theorem atFirst_iff (t : Fin cfg0.N) : atFirst (grid0.coords t) ↔ t.val = 0 := by
  have ht : t.val < 512 := t.isLt
  unfold atFirst
  rw [coord_val, show (Scalar.cmpi .eq (BitVec.ofNat 32 t.val) 0#32 : BitVec 1) = BitVec.ofBool (BitVec.ofNat 32 t.val == 0#32) from rfl, flag_iff,
    beq_iff_eq, ← BitVec.toNat_inj, BitVec.toNat_ofNat]
  simp; omega

/-- The last branch is taken exactly at grid point 511. -/
theorem atLast_iff (t : Fin cfg0.N) : atLast (grid0.coords t) ↔ t.val = 511 := by
  have ht : t.val < 512 := t.isLt
  unfold atLast
  rw [coord_val, show (Scalar.cmpi .eq (BitVec.ofNat 32 t.val) 511#32 : BitVec 1) = BitVec.ofBool (BitVec.ofNat 32 t.val == 511#32) from rfl, flag_iff,
    beq_iff_eq, ← BitVec.toNat_inj, BitVec.toNat_ofNat]
  simp; omega

/-- At grid point 0 the accumulator is one step from zero. -/
theorem acc_zero (c : Dev nD) (t : Fin cfg0.N) (h : t.val = 0) : acc m c t = step m c t (k0_pay2 (F := F)) := by
  rw [acc_lt m c t (by omega), h]; show step m c (pt 0) _ = _; rw [← h, pt_val]

/-- After grid point 0 the sums are one step from the sums before. -/
theorem sums_succ (c : Dev nD) (t : Fin cfg0.N) (h : t.val ≠ 0) : sums m c t.val = step m c t (sums m c (t.val - 1)) := by
  obtain ⟨n, hn⟩ : ∃ n, t.val = n + 1 := ⟨t.val - 1, by omega⟩
  have e : sums m c (n + 1) = step m c (pt (n + 1)) (sums m c n) := rfl
  rw [hn, Nat.add_sub_cancel, e, ← hn, pt_val]

/-- The words the run's `batch` block holds are words of the array. -/
theorem words_lt (c : Dev nD) (hb : ∀ j, (m ((c.tc : Thread nD τ).loc main_arg2) j : BitVec 32).toNat < 128) (t : Fin cfg0.N) (j) :
    ((iblk m c 7 t : Vec F S4096 .i32) j : BitVec 32).toNat < 128 := by
  unfold iblk
  rw [View.read_apply, cast_eq]
  show (V m c main_arg2 _ : BitVec 32).toNat < 128
  rw [V_main_arg2]; exact hb _

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: from its blocks and the sums so far to its blocks and the sums with the point's atoms added. -/
theorem sound_body (c : Dev nD) (hb : ∀ j, (m ((c.tc : Thread nD τ).loc main_arg2) j : BitVec 32).toNat < 128) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  by_cases h0 : t.val = 0
  · rw [acc_zero m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_first c (grid0.coords t) ((atFirst_iff t).mpr h0) (fun h => by have := (atLast_iff t).mp h; omega) Set.univ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ (words_lt m c hb t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  simp only [before0_8 m c t h0]
  by_cases h1 : t.val = 511
  · rw [show acc m c t = k0_pay1 (step m c t (sums m c (t.val - 1))) from by rw [← sums_succ m c t h0]; exact if_pos h1]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_last c (grid0.coords t) (fun h => h0 ((atFirst_iff t).mp h)) ((atLast_iff t).mpr h1) Set.univ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (sums m c (t.val - 1)) (words_lt m c hb t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [acc_lt m c t h1, sums_succ m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_mid c (grid0.coords t) (fun h => h0 ((atFirst_iff t).mp h)) (fun h => h1 ((atLast_iff t).mp h)) Set.univ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (sums m c (t.val - 1)) (words_lt m c hb t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at point `t`'s slots is the body at that point. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) (hb : ∀ j, (m ((c.tc : Thread nD τ).loc main_arg2) j : BitVec 32).toNat < 128) :
    BodyObligation (dats (F := F) m 0 c) (defs₀ (F := F)) Variants.none () Set.univ := fun t => by
  rw [bigSep_W0, bigSep_W0, defs₀_row]
  exact triple_restated (sound_body m c hb t) rfl .rfl fun _ => .rfl

/-! ## The run and the frame -/

variable (hb : ∀ c : Dev nD, ∀ j, (m ((c.tc : Thread nD τ).loc main_arg2) j : BitVec 32).toNat < 128)
include hb

-- The launch's implicit arguments are found by unifying its conclusion, which takes unfolding plain definitions in a type.
set_option backward.isDefEq.respectTransparency.types false in
/-- Every fair execution ends, with the arrays at what the proof data say and every semaphore counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c (hb c)).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ hb)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ hb)

/-- THE FRAME: every fair execution ends, the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ hb) ((θ_run defs _ _).mono (fun _ h => h.2) (run_main_quiescent m ρ hb))

end Cert.KernelIdeal.Seg

end
-- ==== Proof.PreWords.lean ====
/-
  What `words_in_range` says: every word of `batch` is below 128.
-/
module

public import proofs.«01_k».proof.Proof.Gen.Pre_words_in_range
public import Idealize.ShloMosaic.Lib.ReduceAll
public import Idealize.ShloMosaic.Lib.Affine
public import Idealize.ShloMosaic.Lib.Pointwise.Select
public import Idealize.ShloMosaic.Lib.KernelVsHost

@[expose] public section

noncomputable section

namespace Cert.Hyp

open Idealize.ShloMosaic

variable {F : FTy → Type} [FloatOps F]

/-- A conjunction of two bits is 1 exactly when both are. -/
theorem andi_one (a b : BitVec 1) : IntOp.andi a b = 1#1 ↔ a = 1#1 ∧ b = 1#1 := by
  revert a b; decide

/-- The scalar shape has one index. -/
instance scalarIdx : Subsingleton Cert.Pre_words_in_range.S_.Idx := ⟨fun a b => funext fun k => k.elim0⟩

/-- A word that is at least 0 and below 128, both read signed, is below 128 read unsigned. -/
theorem word_lt (w : BitVec 32) (h : IntOp.andi (IntOp.cmpi .sge w 0#32) (IntOp.cmpi .slt w 128#32) = 1#1) : w.toNat < 128 := by
  obtain ⟨h0, h1⟩ := (andi_one _ _).mp h
  have hw := w.isLt
  simp only [IntOp.cmpi] at h0 h1
  rw [show (1#1 : BitVec 1) = BitVec.ofBool true from rfl] at h0 h1
  have e0 : ∀ a b : Bool, BitVec.ofBool a = BitVec.ofBool b → a = b := by decide
  have g0 := e0 _ _ h0
  have g1 := e0 _ _ h1
  simp only [BitVec.sle, BitVec.slt, decide_eq_true_eq, BitVec.toInt, BitVec.toNat_ofNat] at g0 g1
  omega

/-- `words_in_range` says that every word of `batch` is below 128. -/
theorem words_lt (x0 : FVec F Cert.Pre_words_in_range.S4096x128x128 .f32) (x1) (x2) (x3) (x4) (x5) (x6) (x7) (x8) (x9) (x10) (x11)
    (h : Cert.Pre_words_in_range.fn (F := F) x0 x1 x2 x3 x4 x5 x6 x7 x8 x9 x10 x11 = fun _ => 1#1) (j) : (x2 j : BitVec 32).toNat < 128 := by
  have h := congrFun h (fun a => a.elim0)
  dsimp only [Cert.Pre_words_in_range.fn] at h
  exact word_lt _ (Host.reduce_andi_all (t := Cert.Pre_words_in_range.S_) _ _ _ _ _ h j)

end Cert.Hyp

end
-- ==== Proof.PreTame.lean ====
/-
  What `tame_inputs` says, word by word and element by element: every word of `batch` is below 128,
  which float arguments are finite and that no row of `sphere_points` has a zero sum of squares.
-/
module

public import proofs.«01_k».proof.Proof.PreWords
public import proofs.«01_k».proof.Proof.Gen.Pre_tame_inputs
public import Idealize.ShloMosaic.Lib.ReduceAll
public import Idealize.ShloMosaic.Lib.Affine
public import Idealize.ShloMosaic.Lib.Pointwise.Select
public import Idealize.ShloMosaic.Lib.KernelVsHost

@[expose] public section

noncomputable section

namespace Cert.Hyp

open Idealize.ShloMosaic

variable {F : FTy → Type} [FloatOps F]

/-- The four parts of `tame_inputs`, each still a bit. -/
structure Parts (x0 : FVec F Cert.Pre_tame_inputs.S4096x128x128 .f32) (x1 : FVec F Cert.Pre_tame_inputs.S128x3 .f32) (x2 : IVec Cert.Pre_tame_inputs.S4096 32)
    (x6 : FVec F Cert.Pre_tame_inputs.S1x128 .f32) (x8 : FVec F Cert.Pre_tame_inputs.S128x128 .f32) (x9 : FVec F Cert.Pre_tame_inputs.S128 .f32)
    (x10 : FVec F Cert.Pre_tame_inputs.S1x128 .f32) (x11 : FVec F Cert.Pre_tame_inputs.S1 .f32) : Prop where
  words : ∀ j, (x2 j : BitVec 32).toNat < 128
  rows : ∀ i, FloatOps.cmpf .ogt (Host.reduceAdd (mulf x1 x1) (constant Cert.Pre_tame_inputs.S_ .f32 0x00000000#32)
    Cert.Pre_tame_inputs.Facts.reducesTo_S128x3_S128_d1 Cert.Pre_tame_inputs.Facts.h_S_ i) (FloatOps.ofBits .f32 0x00000000#32 : F .f32) = 1#1
  f0 : ∀ i, FloatOps.cmpf .olt (Host.absf x0 i) (FloatOps.ofBits .f32 0x7F800000#32 : F .f32) = 1#1
  f6 : ∀ i, FloatOps.cmpf .olt (Host.absf x6 i) (FloatOps.ofBits .f32 0x7F800000#32 : F .f32) = 1#1
  f8 : ∀ i, FloatOps.cmpf .olt (Host.absf x8 i) (FloatOps.ofBits .f32 0x7F800000#32 : F .f32) = 1#1
  f9 : ∀ i, FloatOps.cmpf .olt (Host.absf x9 i) (FloatOps.ofBits .f32 0x7F800000#32 : F .f32) = 1#1
  f10 : ∀ i, FloatOps.cmpf .olt (Host.absf x10 i) (FloatOps.ofBits .f32 0x7F800000#32 : F .f32) = 1#1
  f11 : ∀ i, FloatOps.cmpf .olt (Host.absf x11 i) (FloatOps.ofBits .f32 0x7F800000#32 : F .f32) = 1#1

/-- `tame_inputs` says each of its parts. -/
theorem parts (x0 : FVec F Cert.Pre_tame_inputs.S4096x128x128 .f32) (x1) (x2) (x3) (x4) (x5) (x6) (x7) (x8) (x9) (x10) (x11)
    (h : Cert.Pre_tame_inputs.fn (F := F) x0 x1 x2 x3 x4 x5 x6 x7 x8 x9 x10 x11 = fun _ => 1#1) : Parts x0 x1 x2 x6 x8 x9 x10 x11 := by
  have h := congrFun h (fun a => a.elim0)
  dsimp only [Cert.Pre_tame_inputs.fn, Cert.Pre_tame_inputs.fn_part1, Cert.Pre_tame_inputs.fn_part2] at h
  obtain ⟨h, h'⟩ := (andi_one _ _).mp h
  obtain ⟨h, hx⟩ := (andi_one _ _).mp h
  obtain ⟨hw, hr⟩ := (andi_one _ _).mp h
  obtain ⟨hx0, hx6⟩ := (andi_one _ _).mp hx
  obtain ⟨h', h11⟩ := (andi_one _ _).mp h'
  obtain ⟨h', h10⟩ := (andi_one _ _).mp h'
  obtain ⟨h8, h9⟩ := (andi_one _ _).mp h'
  exact
    { words := fun j => word_lt _ (Host.reduce_andi_all (t := Cert.Pre_words_in_range.S_) _ _ _ _ _ hw j)
      rows := fun i => Host.reduce_andi_all (t := Cert.Pre_words_in_range.S_) _ _ _ _ _ hr i
      f0 := fun i => Host.reduce_andi_all (t := Cert.Pre_words_in_range.S_) _ _ _ _ _ hx0 i
      f6 := fun i => Host.reduce_andi_all (t := Cert.Pre_words_in_range.S_) _ _ _ _ _ hx6 i
      f8 := fun i => Host.reduce_andi_all (t := Cert.Pre_words_in_range.S_) _ _ _ _ _ h8 i
      f9 := fun i => Host.reduce_andi_all (t := Cert.Pre_words_in_range.S_) _ _ _ _ _ h9 i
      f10 := fun i => Host.reduce_andi_all (t := Cert.Pre_words_in_range.S_) _ _ _ _ _ h10 i
      f11 := fun i => Host.reduce_andi_all (t := Cert.Pre_words_in_range.S_) _ _ _ _ _ h11 i }

end Cert.Hyp

end
-- ==== Proof.HostA.lean ====
/-
  What the region's small operands hold when the region starts, as functions of the arguments.
-/
module

public import proofs.«01_k».proof.Proof.Gen.KernelIdeal.Frame
public import proofs.«01_k».proof.Proof.Gen.ReferenceIdeal.Read
public import Idealize.ShloMosaic.Lib.StableHlo.RunRead
public import Idealize.ShloMosaic.Lib.Claim

@[expose] public section

set_option maxRecDepth 16384

noncomputable section

namespace Cert.KernelIdeal.Host1

open Cert.KernelIdeal Cert.KernelIdeal.Gen
open Idealize.ShloMosaic Idealize.ShloMosaic.TcCoe Idealize.ShloMosaic.Tactic

variable {F : FTy → Type} [FloatOps F]
variable (m : (ℓ : Loc nD τ sig) → Buf (Elt F) ℓ)

/-- The rows of points. -/
theorem v40 (c : Dev nD) : V m c main_v40 = shapeCast S524288x128 (m ((c : Thread nD τ).loc main_arg0)) shapeCasts_S4096x128x128_S524288x128 := by
  unfold V V0
  simp only [List.flatten_cons, List.flatten_nil, List.append_nil, List.cons_append, List.nil_append]
  after_reads_simp; rfl

/-- The bias row, the two biases side by side. -/
theorem v45 (c : Dev nD) : V m c main_v45 = shapeCast S1x256 (concatenate S256 0 [⟨S128, m ((c : Thread nD τ).loc main_arg5)⟩, ⟨S128, m ((c : Thread nD τ).loc main_arg9)⟩] concatenates_S128_S128_S256_d0) shapeCasts_S256_S1x256 := by
  unfold V V0
  simp only [List.flatten_cons, List.flatten_nil, List.append_nil, List.cons_append, List.nil_append]
  after_reads_simp; rfl

/-- The sphere values are the reference's. -/
theorem v39 (c : Dev nD) : V m c main_v39 = Cert.ReferenceIdeal.Read.val_main_v39 (F := F) (m ((c : Thread nD τ).loc main_arg1)) := by
  unfold V V0
  simp only [List.flatten_cons, List.flatten_nil, List.append_nil, List.cons_append, List.nil_append]
  after_reads_simp
  rfl

/-- The two first-layer weight matrices, transposed and side by side. -/
def wide (x4 x8 : Vec F S128x128 .f32) : Vec F S128x256 .f32 :=
  concatenate S128x256 1 [⟨S128x128, transpose S128x128 [1, 0] x4 transposes_S128x128_S128x128_1_0⟩, ⟨S128x128, transpose S128x128 [1, 0] x8 transposes_S128x128_S128x128_1_0⟩]
    concatenates_S128x128_S128x128_S128x256_d1

/-- The averaging matrix: one in 128, then the harmonics over 128, then two columns of zeros. -/
def amat (p : Vec F S128x5 .f32) : Vec F S128x8 .f32 :=
  concatenate S128x8 1 [⟨S128x1, broadcastInDim S128x1 ![] bcast_S_S128x1 (constant S_ .f32 0x3C000000#32)⟩,
    ⟨S128x5, Host.divf p (broadcastInDim S128x5 ![] bcast_S_S128x5 (constant S_ .f32 0x43000000#32))⟩,
    ⟨S128x2, broadcastInDim S128x2 ![] bcast_S_S128x2 (constant S_ .f32 0x00000000#32)⟩] concatenates_S128x1_S128x5_S128x2_S128x8_d1

/-- A row of zeros, 128 long. -/
def zrow : Vec F S128 .f32 := broadcastInDim S128 ![] bcast_S_S128 (constant S_ .f32 0x00000000#32)

/-- One row of `w2`: the two halves side by side. -/
def wrow (a b : Vec F S128 .f32) : Vec F S1x256 .f32 :=
  broadcastInDim S1x256 ![1] bcast_S256_S1x256_1 (concatenate S256 0 [⟨S128, a⟩, ⟨S128, b⟩] concatenates_S128_S128_S256_d0)

/-- A zero row of `w2`. -/
def wzero : Vec F S1x256 .f32 :=
  broadcastInDim S1x256 ![1] bcast_S256_S1x256_1 (broadcastInDim S256 ![] bcast_S_S256 (constant S_ .f32 0x00000000#32))

/-- The second-layer weights: the scalar branch's in row 0 and the left half, the other branch's in rows 1 to 5 and the right half. -/
def w2 (x6 x10 : Vec F S1x128 .f32) : Vec F S8x256 .f32 :=
  concatenate S8x256 0 [⟨S1x256, wrow (shapeCast S128 x6 shapeCasts_S1x128_S128) zrow⟩,
    ⟨S1x256, wrow zrow (shapeCast S128 x10 shapeCasts_S1x128_S128)⟩, ⟨S1x256, wrow zrow (shapeCast S128 x10 shapeCasts_S1x128_S128)⟩,
    ⟨S1x256, wrow zrow (shapeCast S128 x10 shapeCasts_S1x128_S128)⟩, ⟨S1x256, wrow zrow (shapeCast S128 x10 shapeCasts_S1x128_S128)⟩,
    ⟨S1x256, wrow zrow (shapeCast S128 x10 shapeCasts_S1x128_S128)⟩, ⟨S1x256, wzero⟩, ⟨S1x256, wzero⟩]
    concatenates_S1x256_S1x256_S1x256_S1x256_S1x256_S1x256_S1x256_S1x256_S8x256_d0

/-- The word `k` as an index vector of one. -/
def word1 (k : BitVec 32) : IVec S1 32 := broadcastInDim S1 ![] bcast_S_S1 (constantI S_ 32 k)

/-- One is written at `(k, k)`. -/
def put (X : Vec F S8x16 .f32) (k : BitVec 32) : Vec F S8x16 .f32 :=
  Host.scatter scatter_S8x16_S2_S__n_01_01_0 (fun _ b => b) X (concatenate S2 0 [⟨S1, word1 k⟩, ⟨S1, word1 k⟩] concatenates_S1_S1_S2_d0) (constant S_ .f32 0x3F800000#32)

/-- The placing matrix: ones at `(0, 0)` to `(5, 5)`. -/
def sel : Vec F S8x16 .f32 :=
  put (put (put (put (put (put (broadcastInDim S8x16 ![] bcast_S_S8x16 (constant S_ .f32 0x00000000#32)) 0#32) 1#32) 2#32) 3#32) 4#32) 5#32

/-- The row added to every atom's: the scalar bias, the other bias times the mean harmonics, and a one that counts. -/
def biasV (p : Vec F S128x5 .f32) (x7 x11 : Vec F S1 .f32) : Vec F S16 .f32 :=
  Host.scatter scatter_S16_S1_S__n_0_0_0 (fun _ b => b)
    (Host.scatter scatter_S16_S1_S5_0_n_0_0 (fun _ b => b)
      (Host.scatter scatter_S16_S1_S__n_0_0_0 (fun _ b => b) (broadcastInDim S16 ![] bcast_S_S16 (constant S_ .f32 0x00000000#32)) (word1 0#32) (shapeCast S_ x7 shapeCasts_S1_S_))
      (word1 1#32)
      (mulf (broadcastInDim S5 ![] bcast_S_S5 (shapeCast S_ x11 shapeCasts_S1_S_))
        (Host.divf (Host.reduceAdd p (constant S_ .f32 0x00000000#32) reducesTo_S128x5_S5_d0 h_S_) (broadcastInDim S5 ![] bcast_S_S5 (constant S_ .f32 0x43000000#32)))))
    (word1 6#32) (constant S_ .f32 0x3F800000#32)

/-- The wide weights, the two transposed weight matrices side by side. -/
theorem v43 (c : Dev nD) : V m c main_v43 = wide (m ((c : Thread nD τ).loc main_arg4)) (m ((c : Thread nD τ).loc main_arg8)) := by
  unfold V V0
  simp only [List.flatten_cons, List.flatten_nil, List.append_nil, List.cons_append, List.nil_append]
  after_reads_simp; rfl

/-- The averaging matrix, of the reference's sphere values. -/
theorem v50 (c : Dev nD) : V m c main_v50 = amat (Cert.ReferenceIdeal.Read.val_main_v39 (F := F) (m ((c : Thread nD τ).loc main_arg1))) := by
  unfold V V0
  simp only [List.flatten_cons, List.flatten_nil, List.append_nil, List.cons_append, List.nil_append]
  after_reads_simp; rfl

/-- The eight rows of second weights. -/
theorem v65 (c : Dev nD) : V m c main_v65 = w2 (m ((c : Thread nD τ).loc main_arg6)) (m ((c : Thread nD τ).loc main_arg10)) := by
  unfold V V0
  simp only [List.flatten_cons, List.flatten_nil, List.append_nil, List.cons_append, List.nil_append]
  after_reads_simp; rfl

/-- The selector matrix. -/
theorem v90 (c : Dev nD) : V m c main_v90 = sel (F := F) := by
  unfold V V0
  simp only [List.flatten_cons, List.flatten_nil, List.append_nil, List.cons_append, List.nil_append]
  after_reads_simp; rfl

/-- The added row, of the biases and the mean sphere values. -/
theorem v105 (c : Dev nD) : V m c main_v105 = shapeCast S1x16 (biasV (Cert.ReferenceIdeal.Read.val_main_v39 (F := F) (m ((c : Thread nD τ).loc main_arg1))) (m ((c : Thread nD τ).loc main_arg7)) (m ((c : Thread nD τ).loc main_arg11))) shapeCasts_S16_S1x16 := by
  unfold V V0
  simp only [List.flatten_cons, List.flatten_nil, List.append_nil, List.cons_append, List.nil_append]
  after_reads_simp; rfl

end Cert.KernelIdeal.Host1

end
-- ==== Proof.Algebra.lean ====
/-
  The arithmetic of the extended reals that one atom's row needs: which sums a factor may be moved through, and the two identities
  between the kernel's order of summation and the reference's.
-/
module

public import Idealize.ShloMosaic.PureOps.Ideal
public import Idealize.ShloMosaic.PureOps.Ideal.Laws
public import Idealize.ShloMosaic.Lib.IdealHost

@[expose] public section

noncomputable section

namespace Cert.Alg

open Idealize.ShloMosaic

/-- `t` times its logistic. -/
def silu (t : EReal) : EReal := t * Ideal.logistic t

/-- `silu` is never minus infinity. -/
theorem silu_ne_bot (t : EReal) : silu t ≠ ⊥ := by
  unfold silu
  induction t using EReal.rec with
  | bot => simp
  | top => simp
  | coe r => rw [Ideal.logistic_coe, ← EReal.coe_mul]; exact EReal.coe_ne_bot _

/-- `silu` of a real is real. -/
theorem silu_real (r : ℝ) : ∃ s : ℝ, silu r = s := ⟨r * (1 + Real.exp (-r))⁻¹, by rw [silu, Ideal.logistic_coe, EReal.coe_mul]⟩

/-- A real factor distributes over a sum of two that are not minus infinity. -/
theorem add_mul_real (a b : EReal) (ha : a ≠ ⊥) (hb : b ≠ ⊥) (r : ℝ) : (a + b) * (r : EReal) = a * r + b * r := by
  induction a using EReal.rec with
  | bot => exact absurd rfl ha
  | top =>
    rw [EReal.top_add_of_ne_bot hb]
    induction b using EReal.rec with
    | bot => exact absurd rfl hb
    | top =>
      rcases lt_trichotomy r 0 with h | h | h
      · rw [EReal.top_mul_coe_of_neg h]; rfl
      · subst h; simp
      · rw [EReal.top_mul_coe_of_pos h]; rfl
    | coe b =>
      rcases lt_trichotomy r 0 with h | h | h
      · rw [EReal.top_mul_coe_of_neg h, EReal.bot_add]
      · subst h; simp
      · rw [EReal.top_mul_coe_of_pos h, ← EReal.coe_mul, EReal.top_add_coe]
  | coe a =>
    induction b using EReal.rec with
    | bot => exact absurd rfl hb
    | top =>
      rw [EReal.coe_add_top]
      rcases lt_trichotomy r 0 with h | h | h
      · rw [EReal.top_mul_coe_of_neg h, EReal.add_bot]
      · subst h; simp
      · rw [EReal.top_mul_coe_of_pos h, ← EReal.coe_mul, EReal.coe_add_top]
    | coe b => norm_cast; rw [add_mul]

/-- A finite sum of terms that are not minus infinity is not minus infinity. -/
theorem sum_ne_bot {ι : Type} (s : Finset ι) (f : ι → EReal) (hf : ∀ i, f i ≠ ⊥) : ∑ i ∈ s, f i ≠ ⊥ := by
  classical
  induction s using Finset.induction_on with
  | empty => simp
  | insert a s ha ih => rw [Finset.sum_insert ha]; exact fun h => (EReal.add_eq_bot_iff.mp h).elim (hf a) ih

/-- A real factor distributes over a finite sum of terms that are not minus infinity. -/
theorem sum_mul_real {ι : Type} (s : Finset ι) (f : ι → EReal) (hf : ∀ i, f i ≠ ⊥) (r : ℝ) :
    (∑ i ∈ s, f i) * (r : EReal) = ∑ i ∈ s, f i * r := by
  classical
  induction s using Finset.induction_on with
  | empty => simp
  | insert a s ha ih => rw [Finset.sum_insert ha, Finset.sum_insert ha, add_mul_real _ _ (hf a) (sum_ne_bot s f hf), ih]

/-- A positive real factor distributes over any sum of two. -/
theorem pos_mul_add {r : ℝ} (hr : 0 ≤ r) (a b : EReal) : (r : EReal) * (a + b) = r * a + r * b :=
  EReal.left_distrib_of_nonneg_of_ne_top (by exact_mod_cast hr) (EReal.coe_ne_top r) a b

/-- A positive real factor distributes over any finite sum. -/
theorem pos_mul_sum {ι : Type} {r : ℝ} (hr : 0 ≤ r) (s : Finset ι) (f : ι → EReal) :
    (r : EReal) * ∑ i ∈ s, f i = ∑ i ∈ s, (r : EReal) * f i := by
  classical
  induction s using Finset.induction_on with
  | empty => simp
  | insert a s ha ih => rw [Finset.sum_insert ha, Finset.sum_insert ha, pos_mul_add hr, ih]

/-- One in 128. -/
abbrev c128 : EReal := ((1 / 128 : ℝ) : EReal)

/-- Division by 128 is multiplication by one in 128. -/
theorem div_128 (a : EReal) : Ideal.div a ((128 : ℝ) : EReal) = c128 * a := by
  unfold Ideal.div
  rw [if_neg (by norm_num), ← EReal.coe_inv, mul_comm]
  norm_num

/-- A real divided by 128. -/
theorem div_128_real (a : ℝ) : Ideal.div (a : EReal) ((128 : ℝ) : EReal) = ((a / 128 : ℝ) : EReal) := by
  rw [div_128, ← EReal.coe_mul]; congr 1; ring

/-- THE SCALAR ROW: the kernel weighs the mean of the hidden rows and adds the bias; the reference takes the mean of the weighed rows
    with the bias in each. Hidden values may be plus infinity, the bias anything; only the weights must be real. -/
theorem scalar_row (z : Fin 128 → Fin 128 → EReal) (hz : ∀ s j, z s j ≠ ⊥) (w : Fin 128 → ℝ) (b : EReal) :
    (∑ j : Fin 128, (∑ s : Fin 128, c128 * z s j) * (w j : EReal)) + b
      = Ideal.div (∑ s : Fin 128, ((∑ j : Fin 128, z s j * (w j : EReal)) + b)) ((128 : ℝ) : EReal) := by
  have h0 : (0 : ℝ) ≤ 1 / 128 := by norm_num
  rw [div_128, Finset.sum_add_distrib, pos_mul_add h0]
  congr 1
  · rw [Finset.sum_comm, pos_mul_sum h0]
    exact Finset.sum_congr rfl fun j _ => by rw [← pos_mul_sum h0, mul_assoc, sum_mul_real _ _ (fun s => hz s j)]
  · rw [Finset.sum_const, Finset.card_univ, Fintype.card_fin, EReal.nsmul_eq_mul, ← mul_assoc]
    have : c128 * ((128 : ℕ) : EReal) = 1 := by
      rw [show ((128 : ℕ) : EReal) = ((128 : ℝ) : EReal) by norm_cast, ← EReal.coe_mul]; norm_num
    rw [this, one_mul]

/-- The irreducible rows, where everything is real. -/
theorem irrep_row (z : Fin 128 → Fin 128 → ℝ) (w : Fin 128 → ℝ) (b : ℝ) (p : Fin 128 → ℝ) :
    (∑ j : Fin 128, (∑ s : Fin 128, Ideal.div (p s : EReal) ((128 : ℝ) : EReal) * (z s j : EReal)) * (w j : EReal))
        + (b : EReal) * Ideal.div (∑ s : Fin 128, (p s : EReal)) ((128 : ℝ) : EReal)
      = Ideal.div (∑ s : Fin 128, ((∑ j : Fin 128, (z s j : EReal) * (w j : EReal)) + (b : EReal)) * (p s : EReal)) ((128 : ℝ) : EReal) := by
  have hs : ∀ f : Fin 128 → ℝ, ∑ i, (f i : EReal) = ((∑ i, f i : ℝ) : EReal) := fun f => by
    norm_cast
  simp only [div_128_real, ← EReal.coe_mul, hs, ← EReal.coe_add]
  congr 1
  simp only [Finset.sum_mul, add_mul, Finset.sum_add_distrib, Finset.sum_div, Finset.mul_sum, add_div]
  rw [Finset.sum_comm]
  congr 1
  · exact Finset.sum_congr rfl fun s _ => Finset.sum_congr rfl fun j _ => by ring
  · exact Finset.sum_congr rfl fun s _ => by ring

end Cert.Alg

end
-- ==== Proof.HostB.lean ====
module

public import Idealize.ShloMosaic.Lib.IdealHost
public import Idealize.ShloMosaic.Lib.Routing.OpsOne
public import proofs.«01_k».proof.Proof.HostA
public import proofs.«01_k».proof.Proof.Algebra

/-!
The arrays the kernel's host program prepares, read at an index over the extended reals.
-/

@[expose] public section

noncomputable section
namespace Cert.KernelIdeal.Host1
open Idealize.ShloMosaic
open Idealize.ShloMosaic.ValueIdx Cert.KernelIdeal Cert.KernelIdeal.Gen Cert.Alg Idealize.ShloMosaic.Routing

/-- The word for one in 128. -/
theorem ofBits_c128 : Ideal.ofBits .f32 0x3C000000#32 = c128 := by
  simp [Ideal.ofBits, Ideal.ieee, -EReal.coe_mul]; norm_num

/-- The word for 128. -/
theorem ofBits_128 : Ideal.ofBits .f32 0x43000000#32 = ((128 : ℝ) : EReal) := by
  simp [Ideal.ofBits, Ideal.ieee, -EReal.coe_mul]; norm_num

/-- A matrix made of pieces side by side, read at a column inside one piece. -/
theorem piece_col {α : Type} {R C n : Nat} (xs : List ((s : Shape) × (s.Idx → α))) (h : Shape.Concatenates (xs.map (·.1)) ⟨2, ![R, C]⟩ 1)
    (i : Fin R) (j : Fin C) (k : Nat) (hk : k < xs.length) (x : (⟨2, ![R, n]⟩ : Shape).Idx → α) (hx : xs[k] = ⟨⟨2, ![R, n]⟩, x⟩) (pre : Nat)
    (hpre : (((xs.take k).map (·.1)).map fun s => if h : s.rank = 2 then s.size ((1 : Fin 2).cast h.symm) else 0).sum = pre)
    (j' : Fin n) (hj : pre + j'.val = j.val) : concatenate ⟨2, ![R, C]⟩ 1 xs h (ix2 i j) = x (ix2 i j') :=
  concatenate_apply_piece (t := ⟨2, ![R, C]⟩) 1 xs h (ix2 i j) k hk ⟨2, ![R, n]⟩ x hx rfl pre hpre (ix2 i j')
    (fun b hb => match b with | ⟨0, _⟩ => rfl | ⟨1, _⟩ => absurd rfl hb) hj

/-- A matrix made of pieces one above the other, read at a row inside one piece. -/
theorem piece_row {α : Type} {R C n : Nat} (xs : List ((s : Shape) × (s.Idx → α))) (h : Shape.Concatenates (xs.map (·.1)) ⟨2, ![R, C]⟩ 0)
    (i : Fin R) (j : Fin C) (k : Nat) (hk : k < xs.length) (x : (⟨2, ![n, C]⟩ : Shape).Idx → α) (hx : xs[k] = ⟨⟨2, ![n, C]⟩, x⟩) (pre : Nat)
    (hpre : (((xs.take k).map (·.1)).map fun s => if h : s.rank = 2 then s.size ((0 : Fin 2).cast h.symm) else 0).sum = pre)
    (i' : Fin n) (hi : pre + i'.val = i.val) : concatenate ⟨2, ![R, C]⟩ 0 xs h (ix2 i j) = x (ix2 i' j) :=
  concatenate_apply_piece (t := ⟨2, ![R, C]⟩) 0 xs h (ix2 i j) k hk ⟨2, ![n, C]⟩ x hx rfl pre hpre (ix2 i' j)
    (fun b hb => match b with | ⟨1, _⟩ => rfl | ⟨0, _⟩ => absurd rfl hb) hi

/-- A vector made of pieces one after the other, read inside one piece. -/
theorem piece_vec {α : Type} {C n : Nat} (xs : List ((s : Shape) × (s.Idx → α))) (h : Shape.Concatenates (xs.map (·.1)) ⟨1, ![C]⟩ 0)
    (j : Fin C) (k : Nat) (hk : k < xs.length) (x : (⟨1, ![n]⟩ : Shape).Idx → α) (hx : xs[k] = ⟨⟨1, ![n]⟩, x⟩) (pre : Nat)
    (hpre : (((xs.take k).map (·.1)).map fun s => if h : s.rank = 1 then s.size ((0 : Fin 1).cast h.symm) else 0).sum = pre)
    (j' : Fin n) (hj : pre + j'.val = j.val) : concatenate ⟨1, ![C]⟩ 0 xs h (ix1 j) = x (ix1 j') :=
  concatenate_apply_piece (t := ⟨1, ![C]⟩) 0 xs h (ix1 j) k hk ⟨1, ![n]⟩ x hx rfl pre hpre (ix1 j')
    (fun b hb => match b with | ⟨0, _⟩ => absurd rfl hb) hj

/-- The averaging matrix's first column is one in 128. -/
theorem amat_zero (p : Vec Ideal S128x5 .f32) (s : Fin 128) : amat p (ix2 s (0 : Fin 8)) = c128 :=
  (piece_col [⟨S128x1, _⟩, ⟨S128x5, _⟩, ⟨S128x2, _⟩] concatenates_S128x1_S128x5_S128x2_S128x8_d1 s 0 0 (by simp) _ rfl 0 rfl (0 : Fin 1) rfl).trans ofBits_c128

/-- The averaging matrix's next five columns are the harmonics over 128. -/
theorem amat_succ (p : Vec Ideal S128x5 .f32) (s : Fin 128) (k : Fin 5) :
    amat p (ix2 s ⟨k.val + 1, by omega⟩) = Ideal.div (p (ix2 s k)) ((128 : ℝ) : EReal) :=
  (piece_col [⟨S128x1, _⟩, ⟨S128x5, _⟩, ⟨S128x2, _⟩] concatenates_S128x1_S128x5_S128x2_S128x8_d1 s _ 1 (by simp) _ rfl 1 rfl k (Nat.add_comm _ _)).trans
    (congrArg (Ideal.div _) ofBits_128)

/-- The left half of the two weight matrices, transposed. -/
theorem wide_left (x4 x8 : Vec Ideal S128x128 .f32) (i j : Fin 128) : wide x4 x8 (ix2 i ⟨j.val, by omega⟩) = x4 (ix2 j i) :=
  (piece_col [⟨S128x128, _⟩, ⟨S128x128, _⟩] concatenates_S128x128_S128x128_S128x256_d1 i _ 0 (by simp) _ rfl 0 rfl j (Nat.zero_add _)).trans
    (transpose_apply _ _ _ _ _ (fun b => match b with | ⟨0, _⟩ => rfl | ⟨1, _⟩ => rfl))

/-- The right half of the two weight matrices, transposed. -/
theorem wide_right (x4 x8 : Vec Ideal S128x128 .f32) (i j : Fin 128) : wide x4 x8 (ix2 i ⟨j.val + 128, by omega⟩) = x8 (ix2 j i) :=
  (piece_col [⟨S128x128, _⟩, ⟨S128x128, _⟩] concatenates_S128x128_S128x128_S128x256_d1 i _ 1 (by simp) _ rfl 128 rfl j (Nat.add_comm _ _)).trans
    (transpose_apply _ _ _ _ _ (fun b => match b with | ⟨0, _⟩ => rfl | ⟨1, _⟩ => rfl))

/-- Two rows of 128 side by side, read in the left half. -/
theorem pair_left {α : Type} (a b : S128.Idx → α) (j : Fin 128) :
    concatenate S256 0 [⟨S128, a⟩, ⟨S128, b⟩] concatenates_S128_S128_S256_d0 (ix1 ⟨j.val, by omega⟩) = a (ix1 j) :=
  piece_vec [⟨S128, a⟩, ⟨S128, b⟩] concatenates_S128_S128_S256_d0 _ 0 (by simp) _ rfl 0 rfl j (Nat.zero_add _)

/-- Two rows of 128 side by side, read in the right half. -/
theorem pair_right {α : Type} (a b : S128.Idx → α) (j : Fin 128) :
    concatenate S256 0 [⟨S128, a⟩, ⟨S128, b⟩] concatenates_S128_S128_S256_d0 (ix1 ⟨j.val + 128, by omega⟩) = b (ix1 j) :=
  piece_vec [⟨S128, a⟩, ⟨S128, b⟩] concatenates_S128_S128_S256_d0 _ 1 (by simp) _ rfl 128 rfl j (Nat.add_comm _ _)

/-- One row of the second-layer weights is the two halves side by side. -/
theorem wrow_apply (a b : Vec Ideal S128 .f32) (j : Fin 256) :
    wrow a b (ix2 (0 : Fin 1) j) = concatenate S256 0 [⟨S128, a⟩, ⟨S128, b⟩] concatenates_S128_S128_S256_d0 (ix1 j) :=
  broadcastInDim_apply _ _ _ _ _ (fun b => match b with | ⟨0, _⟩ => rfl)

/-- The zero row is zero. -/
theorem zrow_apply (j : Fin 128) : (zrow : Vec Ideal S128 .f32) (ix1 j) = 0 := Ideal.ofBits_zero_f32

/-- A flattened one-row matrix at a column. -/
theorem flat_row (x : Vec Ideal S1x128 .f32) (j : Fin 128) : shapeCast S128 x shapeCasts_S1x128_S128 (ix1 j) = x (ix2 (0 : Fin 1) j) :=
  shapeCast_apply _ _ _ _ (by rw [Shape.rowMajor_val_two, Shape.rowMajor_val_one]; show 0 * 128 + j.val = j.val; omega)

end Cert.KernelIdeal.Host1
-- ==== Proof.HostC.lean ====
module

public import Idealize.ShloMosaic.Lib.IdealHost
public import Idealize.ShloMosaic.Lib.Routing.OpsOne
public import proofs.«01_k».proof.Proof.HostB

/-!
The second-layer weights, the placing matrix and the added row, read at an index over the extended reals.
-/

@[expose] public section

noncomputable section
namespace Cert.KernelIdeal.Host1
open Idealize.ShloMosaic Idealize.ShloMosaic.ValueIdx Idealize.ShloMosaic.Routing
open Cert.KernelIdeal Cert.KernelIdeal.Gen Cert.Alg

/-- The wide zero row is zero. -/
theorem wzero_apply (j : Fin 256) : (wzero : Vec Ideal S1x256 .f32) (ix2 (0 : Fin 1) j) = 0 := Ideal.ofBits_zero_f32

/-- The eight pieces of the second-layer weights. -/
abbrev eightRows (r0 r1 r2 r3 r4 r5 r6 r7 : Vec Ideal S1x256 .f32) : List ((s : Shape) × (s.Idx → EReal)) :=
  [⟨S1x256, r0⟩, ⟨S1x256, r1⟩, ⟨S1x256, r2⟩, ⟨S1x256, r3⟩, ⟨S1x256, r4⟩, ⟨S1x256, r5⟩, ⟨S1x256, r6⟩, ⟨S1x256, r7⟩]

/-- Row 0 of the second-layer weights. -/
theorem w2_row0 (x6 x10 : Vec Ideal S1x128 .f32) (j : Fin 256) :
    w2 x6 x10 (ix2 (0 : Fin 8) j) = wrow (shapeCast S128 x6 shapeCasts_S1x128_S128) zrow (ix2 (0 : Fin 1) j) :=
  piece_row (eightRows _ _ _ _ _ _ _ _) concatenates_S1x256_S1x256_S1x256_S1x256_S1x256_S1x256_S1x256_S1x256_S8x256_d0 0 j 0 (by simp) _ rfl 0 rfl (0 : Fin 1) rfl

/-- Rows 1 to 5 of the second-layer weights. -/
theorem w2_rowk (x6 x10 : Vec Ideal S1x128 .f32) (k : Fin 5) (j : Fin 256) :
    w2 x6 x10 (ix2 (⟨k.val + 1, by omega⟩ : Fin 8) j) = wrow zrow (shapeCast S128 x10 shapeCasts_S1x128_S128) (ix2 (0 : Fin 1) j) := by
  match k with
  | ⟨0, _⟩ => exact piece_row (eightRows _ _ _ _ _ _ _ _) concatenates_S1x256_S1x256_S1x256_S1x256_S1x256_S1x256_S1x256_S1x256_S8x256_d0 _ j 1 (by simp) _ rfl 1 rfl (0 : Fin 1) rfl
  | ⟨1, _⟩ => exact piece_row (eightRows _ _ _ _ _ _ _ _) concatenates_S1x256_S1x256_S1x256_S1x256_S1x256_S1x256_S1x256_S1x256_S8x256_d0 _ j 2 (by simp) _ rfl 2 rfl (0 : Fin 1) rfl
  | ⟨2, _⟩ => exact piece_row (eightRows _ _ _ _ _ _ _ _) concatenates_S1x256_S1x256_S1x256_S1x256_S1x256_S1x256_S1x256_S1x256_S8x256_d0 _ j 3 (by simp) _ rfl 3 rfl (0 : Fin 1) rfl
  | ⟨3, _⟩ => exact piece_row (eightRows _ _ _ _ _ _ _ _) concatenates_S1x256_S1x256_S1x256_S1x256_S1x256_S1x256_S1x256_S1x256_S8x256_d0 _ j 4 (by simp) _ rfl 4 rfl (0 : Fin 1) rfl
  | ⟨4, _⟩ => exact piece_row (eightRows _ _ _ _ _ _ _ _) concatenates_S1x256_S1x256_S1x256_S1x256_S1x256_S1x256_S1x256_S1x256_S8x256_d0 _ j 5 (by simp) _ rfl 5 rfl (0 : Fin 1) rfl

/-- Row 0 of the second weights, left half: the scalar branch's weights. -/
theorem w2_zero_left (x6 x10 : Vec Ideal S1x128 .f32) (j : Fin 128) : w2 x6 x10 (ix2 (0 : Fin 8) ⟨j.val, by omega⟩) = x6 (ix2 (0 : Fin 1) j) := by
  rw [w2_row0, wrow_apply, pair_left, flat_row]

/-- Row 0 of the second weights, right half: zero. -/
theorem w2_zero_right (x6 x10 : Vec Ideal S1x128 .f32) (j : Fin 128) : w2 x6 x10 (ix2 (0 : Fin 8) ⟨j.val + 128, by omega⟩) = 0 := by
  rw [w2_row0, wrow_apply, pair_right, zrow_apply]

/-- Rows 1 to 5 of the second weights, left half: zero. -/
theorem w2_succ_left (x6 x10 : Vec Ideal S1x128 .f32) (k : Fin 5) (j : Fin 128) : w2 x6 x10 (ix2 (⟨k.val + 1, by omega⟩ : Fin 8) ⟨j.val, by omega⟩) = 0 := by
  rw [w2_rowk, wrow_apply, pair_left, zrow_apply]

/-- Rows 1 to 5 of the second weights, right half: the irreducible branch's weights. -/
theorem w2_succ_right (x6 x10 : Vec Ideal S1x128 .f32) (k : Fin 5) (j : Fin 128) :
    w2 x6 x10 (ix2 (⟨k.val + 1, by omega⟩ : Fin 8) ⟨j.val + 128, by omega⟩) = x10 (ix2 (0 : Fin 1) j) := by
  rw [w2_rowk, wrow_apply, pair_right, flat_row]

/-- The index pair `(k, k)`. -/
theorem twoWords (k : BitVec 32) (q : Fin 2) : concatenate S2 0 [⟨S1, word1 k⟩, ⟨S1, word1 k⟩] concatenates_S1_S1_S2_d0 (ix1 q) = k := by
  match q with
  | ⟨0, _⟩ => exact piece_vec [⟨S1, word1 k⟩, ⟨S1, word1 k⟩] concatenates_S1_S1_S2_d0 _ 0 (by simp) _ rfl 0 rfl (0 : Fin 1) rfl
  | ⟨1, _⟩ => exact piece_vec [⟨S1, word1 k⟩, ⟨S1, word1 k⟩] concatenates_S1_S1_S2_d0 _ 1 (by simp) _ rfl 1 rfl (0 : Fin 1) rfl

/-- Writing a one at `(k, k)`, read at an index. -/
theorem put_apply (X : Vec Ideal S8x16 .f32) (k : BitVec 32) (r : Fin 8) (c : Fin 16) :
    put X k (ix2 r c) = if k.toInt = (r.val : Int) ∧ k.toInt = (c.val : Int) then 1 else X (ix2 r c) := by
  refine (scatter_cell_signed scatter_S8x16_S2_S__n_01_01_0 rfl rfl rfl X _ _ r c).trans ?_
  rw [twoWords, twoWords]
  exact congrArg (fun o => if k.toInt = (r.val : Int) ∧ k.toInt = (c.val : Int) then o else X (ix2 r c)) Ideal.ofBits_one_f32

/-- The placing matrix at an index. -/
theorem sel_apply (r : Fin 8) (c : Fin 16) : (sel : Vec Ideal S8x16 .f32) (ix2 r c) = if r.val = c.val ∧ r.val ≤ 5 then 1 else 0 := by
  have h0 : (broadcastInDim S8x16 ![] bcast_S_S8x16 (constant (F := Ideal) S_ .f32 0x00000000#32)) (ix2 r c) = 0 := Ideal.ofBits_zero_f32
  unfold sel
  rw [put_apply, put_apply, put_apply, put_apply, put_apply, put_apply, h0]
  rw [show (0#32 : BitVec 32).toInt = 0 from rfl, show (1#32 : BitVec 32).toInt = 1 from rfl, show (2#32 : BitVec 32).toInt = 2 from rfl,
    show (3#32 : BitVec 32).toInt = 3 from rfl, show (4#32 : BitVec 32).toInt = 4 from rfl, show (5#32 : BitVec 32).toInt = 5 from rfl]
  by_cases h : r.val = c.val ∧ r.val ≤ 5
  · rw [if_pos h]
    split_ifs <;> first | rfl | omega
  · rw [if_neg h]
    split_ifs <;> first | rfl | omega

/-- Writing a scalar at one place of a vector of 16. -/
theorem set1 (X : Vec Ideal S16 .f32) (k : Fin 16) (w : BitVec 32) (hw : w.toInt = (k.val : Int)) (u : Vec Ideal S_ .f32) (e : Fin 16) :
    Host.scatter scatter_S16_S1_S__n_0_0_0 (fun _ b => b) X (word1 w) u (ix1 e) = if e = k then u ix0 else X (ix1 e) := by
  by_cases h : e = k
  · rw [if_pos h]
    exact scatter_set_hit _ X _ u _ _ (fun j _ => congrArg u (eq_ix0 j)) ix0 ((lands_one scatter_S16_S1_S__n_0_0_0 rfl rfl (word1 w) k hw e).2 h)
  · rw [if_neg h]
    exact scatter_set_miss _ X _ u _ fun j hj => h ((lands_one scatter_S16_S1_S__n_0_0_0 rfl rfl (word1 w) k hw e).1 (by rw [← eq_ix0 j]; exact hj))

/-- Where the entries of a run of five land. -/
theorem lands5 (i : Fin 5) (e : Fin 16) : scatter_S16_S1_S5_0_n_0_0.resultIdx? (ix1 i) (word1 1#32) = some (ix1 e) ↔ 1 + i.val = e.val := by
  have hm : (0 : Fin 1) ∈ scatter_S16_S1_S5_0_n_0_0.scatterDimsToOperandDims := List.mem_singleton.2 rfl
  have hw : scatter_S16_S1_S5_0_n_0_0.window (ix1 i) 0 = i.val := by
    unfold ScatterDims.window
    rw [dif_pos (by decide)]
    exact congrArg (fun t => ((ix1 i : S5.Idx) t).val) (Subsingleton.elim (α := Fin 1) _ 0)
  have hs : scatter_S16_S1_S5_0_n_0_0.start (ix1 i) (word1 1#32) 0 = 1 := by
    unfold ScatterDims.start
    rw [dif_pos hm]
    rfl
  rw [resultIdx?_ix1 (N := 16) scatter_S16_S1_S5_0_n_0_0, hs, hw]
  omega

/-- The run of five, read inside it. -/
theorem set5_hit (X : Vec Ideal S16 .f32) (u : Vec Ideal S5 .f32) (k : Fin 5) :
    Host.scatter scatter_S16_S1_S5_0_n_0_0 (fun _ b => b) X (word1 1#32) u (ix1 ⟨k.val + 1, by omega⟩) = u (ix1 k) := by
  refine scatter_set_hit _ X _ u _ _ (fun j hj => ?_) (ix1 k) ((lands5 k _).2 (Nat.add_comm _ _))
  obtain ⟨i, rfl⟩ : ∃ i : Fin 5, j = ix1 i := ⟨j 0, eq_ix1 j⟩
  have := (lands5 i _).1 hj
  exact congrArg (fun q => u (ix1 q)) (Fin.ext (by simp at this; omega))

/-- The run of five, read at place 0. -/
theorem set5_miss (X : Vec Ideal S16 .f32) (u : Vec Ideal S5 .f32) :
    Host.scatter scatter_S16_S1_S5_0_n_0_0 (fun _ b => b) X (word1 1#32) u (ix1 0) = X (ix1 0) := by
  refine scatter_set_miss _ X _ u _ (fun j hj => ?_)
  obtain ⟨i, rfl⟩ : ∃ i : Fin 5, j = ix1 i := ⟨j 0, eq_ix1 j⟩
  have := (lands5 i _).1 hj
  simp at this

/-- The added row at column 0: the scalar branch's bias. -/
theorem bias_zero (p : Vec Ideal S128x5 .f32) (x7 x11 : Vec Ideal S1 .f32) : biasV p x7 x11 (ix1 (0 : Fin 16)) = x7 (ix1 (0 : Fin 1)) := by
  unfold biasV
  rw [set1 _ 6 6#32 rfl, if_neg (by decide), set5_miss, set1 _ 0 0#32 rfl, if_pos rfl]
  exact shapeCast_apply _ _ _ _ (by rw [Shape.rowMajor_val_one]; rfl)

/-- The added row at column 6: one. -/
theorem bias_six (p : Vec Ideal S128x5 .f32) (x7 x11 : Vec Ideal S1 .f32) : biasV p x7 x11 (ix1 (6 : Fin 16)) = 1 := by
  unfold biasV
  rw [set1 _ 6 6#32 rfl, if_pos rfl]
  exact Ideal.ofBits_one_f32

/-- The added row at columns 1 to 5: the irreducible branch's bias times the mean sphere value. -/
theorem bias_succ (p : Vec Ideal S128x5 .f32) (x7 x11 : Vec Ideal S1 .f32) (k : Fin 5) :
    biasV p x7 x11 (ix1 (⟨k.val + 1, by omega⟩ : Fin 16)) = x11 (ix1 (0 : Fin 1)) * Ideal.div (∑ s : Fin 128, p (ix2 s k)) ((128 : ℝ) : EReal) := by
  unfold biasV
  rw [set1 _ 6 6#32 rfl, if_neg (fun h => by have := congrArg Fin.val h; simp at this; omega), set5_hit]
  have h1 : (broadcastInDim S5 ![] bcast_S_S5 (shapeCast S_ x11 shapeCasts_S1_S_)) (ix1 k) = x11 (ix1 (0 : Fin 1)) :=
    shapeCast_apply _ _ _ _ (by rw [Shape.rowMajor_val_one]; rfl)
  have h2 : (broadcastInDim S5 ![] bcast_S_S5 (constant (F := Ideal) S_ .f32 0x43000000#32)) (ix1 k) = ((128 : ℝ) : EReal) := ofBits_128
  show (broadcastInDim S5 ![] bcast_S_S5 (shapeCast S_ x11 shapeCasts_S1_S_)) (ix1 k) *
    Ideal.div (Host.reduceAdd (F := Ideal) (φ := .f32) p (constant (F := Ideal) S_ .f32 0x00000000#32) reducesTo_S128x5_S5_d0 h_S_ (ix1 k) : EReal)
      ((broadcastInDim S5 ![] bcast_S_S5 (constant (F := Ideal) S_ .f32 0x43000000#32)) (ix1 k)) = _
  rw [h1, h2]
  refine congrArg (fun q => x11 (ix1 (0 : Fin 1)) * Ideal.div q ((128 : ℝ) : EReal)) ?_
  refine (Ideal.hostReduceAdd_single reducesTo_S128x5_S5_d0 (by decide) p _ (ix1 k)).trans ?_
  refine (congrArg (· + _) Ideal.ofBits_zero_f32).trans ((zero_add _).trans (Finset.sum_congr rfl fun s _ => ?_))
  exact congrArg p (funext fun a => Fin.ext (by match a with | ⟨0, _⟩ => rfl | ⟨1, _⟩ => rfl))

end Cert.KernelIdeal.Host1
-- ==== Proof.RowIdeal.lean ====
module

public import Idealize.ShloMosaic.Lib.IdealHost
public import proofs.«01_k».proof.Proof.BodyIdeal
public import proofs.«01_k».proof.Proof.HostC

/-!
One atom's row, read at a column over the extended reals.
-/

@[expose] public section

noncomputable section
namespace Cert.KernelIdeal.Seg
open Idealize.ShloMosaic Idealize.ShloMosaic.ValueIdx
open Cert.KernelIdeal Cert.KernelIdeal.Gen Cert.Alg

/-- The averaging product at an index. -/
theorem dotA (x : Vec Ideal S128x8 .f32) (z : Vec Ideal S128x256 .f32) (r : Fin 8) (j : Fin 256) :
    (matmul (F := Ideal) (φ₁ := .f32) (φ₂ := .f32) dot_S128x8_S128x256_S8x256_0_0_1_1_n_n none x z (constant (F := Ideal) S8x256 .f32 0x00000000#32) (ix2 r j) : EReal)
      = ∑ s : Fin 128, x (ix2 s r) * z (ix2 s j) := by
  refine (Ideal.matmul_constant_zero_apply dot_S128x8_S128x256_S8x256_0_0_1_1_n_n none x z (ix2 r j)).trans ?_
  rw [← Equiv.sum_comp (contrEquiv1 dot_S128x8_S128x256_S8x256_0_0_1_1_n_n 128 rfl rfl).symm]
  refine Finset.sum_congr rfl fun k _ => ?_
  have hk := contrEquiv1_symm_val dot_S128x8_S128x256_S8x256_0_0_1_1_n_n 128 rfl rfl k
  have el : dot_S128x8_S128x256_S8x256_0_0_1_1_n_n.lhsIdx (ix2 r j) ((contrEquiv1 dot_S128x8_S128x256_S8x256_0_0_1_1_n_n 128 rfl rfl).symm k) = ix2 k r :=
    funext fun a => Fin.ext (by
      match a with
      | ⟨0, _⟩ => exact hk
      | ⟨1, _⟩ => rfl)
  have er : dot_S128x8_S128x256_S8x256_0_0_1_1_n_n.rhsIdx (ix2 r j) ((contrEquiv1 dot_S128x8_S128x256_S8x256_0_0_1_1_n_n 128 rfl rfl).symm k) = ix2 k j :=
    funext fun a => Fin.ext (by
      match a with
      | ⟨0, _⟩ => exact hk
      | ⟨1, _⟩ => rfl)
  rw [el, er]

/-- The placing product at an index. -/
theorem dotB (x : Vec Ideal S8x1 .f32) (z : Vec Ideal S8x16 .f32) (j : Fin 16) :
    (matmul (F := Ideal) (φ₁ := .f32) (φ₂ := .f32) dot_S8x1_S8x16_S1x16_0_0_1_1_n_n none x z (constant (F := Ideal) S1x16 .f32 0x00000000#32) (ix2 (0 : Fin 1) j) : EReal)
      = ∑ s : Fin 8, x (ix2 s (0 : Fin 1)) * z (ix2 s j) := by
  refine (Ideal.matmul_constant_zero_apply dot_S8x1_S8x16_S1x16_0_0_1_1_n_n none x z (ix2 (0 : Fin 1) j)).trans ?_
  rw [← Equiv.sum_comp (contrEquiv1 dot_S8x1_S8x16_S1x16_0_0_1_1_n_n 8 rfl rfl).symm]
  refine Finset.sum_congr rfl fun k _ => ?_
  have hk := contrEquiv1_symm_val dot_S8x1_S8x16_S1x16_0_0_1_1_n_n 8 rfl rfl k
  have el : dot_S8x1_S8x16_S1x16_0_0_1_1_n_n.lhsIdx (ix2 (0 : Fin 1) j) ((contrEquiv1 dot_S8x1_S8x16_S1x16_0_0_1_1_n_n 8 rfl rfl).symm k) = ix2 k (0 : Fin 1) :=
    funext fun a => Fin.ext (by
      match a with
      | ⟨0, _⟩ => exact hk
      | ⟨1, _⟩ => rfl)
  have er : dot_S8x1_S8x16_S1x16_0_0_1_1_n_n.rhsIdx (ix2 (0 : Fin 1) j) ((contrEquiv1 dot_S8x1_S8x16_S1x16_0_0_1_1_n_n 8 rfl rfl).symm k) = ix2 k j :=
    funext fun a => Fin.ext (by
      match a with
      | ⟨0, _⟩ => exact hk
      | ⟨1, _⟩ => rfl)
  rw [el, er]

/-- The first layer's product at an index. -/
theorem dotZ (x : Vec Ideal S1024x128 .f32) (w : Vec Ideal S128x256 .f32) (r : Fin 1024) (j : Fin 256) :
    (matmul (F := Ideal) (φ₁ := .f32) (φ₂ := .f32) dot_S1024x128_S128x256_S1024x256_1_0_0_1_n_n none x w (constant (F := Ideal) S1024x256 .f32 0x00000000#32) (ix2 r j) : EReal)
      = ∑ s : Fin 128, x (ix2 r s) * w (ix2 s j) := by
  refine (Ideal.matmul_constant_zero_apply dot_S1024x128_S128x256_S1024x256_1_0_0_1_n_n none x w (ix2 r j)).trans ?_
  rw [← Equiv.sum_comp (contrEquiv1 dot_S1024x128_S128x256_S1024x256_1_0_0_1_n_n 128 rfl rfl).symm]
  refine Finset.sum_congr rfl fun k _ => ?_
  have hk := contrEquiv1_symm_val dot_S1024x128_S128x256_S1024x256_1_0_0_1_n_n 128 rfl rfl k
  have el : dot_S1024x128_S128x256_S1024x256_1_0_0_1_n_n.lhsIdx (ix2 r j) ((contrEquiv1 dot_S1024x128_S128x256_S1024x256_1_0_0_1_n_n 128 rfl rfl).symm k) = ix2 r k :=
    funext fun a => Fin.ext (by
      match a with
      | ⟨0, _⟩ => rfl
      | ⟨1, _⟩ => exact hk)
  have er : dot_S1024x128_S128x256_S1024x256_1_0_0_1_n_n.rhsIdx (ix2 r j) ((contrEquiv1 dot_S1024x128_S128x256_S1024x256_1_0_0_1_n_n 128 rfl rfl).symm k) = ix2 k j :=
    funext fun a => Fin.ext (by
      match a with
      | ⟨0, _⟩ => exact hk
      | ⟨1, _⟩ => rfl)
  rw [el, er]

/-- A cast to the same shape changes nothing. -/
theorem cast_self {S : Shape} {α : Type} (x : S.Idx → α) (h : S.ShapeCasts S) : shapeCast S x h = x :=
  funext fun j => shapeCast_apply x h j j rfl

/-- The row one atom adds, at a column. -/
theorem rowV_apply (zs : Vec Ideal S128x256 .f32) (x4 : Vec Ideal S128x8 .f32) (x5 : Vec Ideal S8x256 .f32) (x6 : Vec Ideal S8x16 .f32) (x7 : Vec Ideal S1x16 .f32)
    (j : Fin 16) :
    (rowV zs x4 x5 x6 x7 (ix2 (0 : Fin 1) j) : EReal)
      = (∑ r : Fin 8, (∑ l : Fin 256, (∑ s : Fin 128, x4 (ix2 s r) * zs (ix2 s l)) * x5 (ix2 r l)) * x6 (ix2 r j)) + x7 (ix2 (0 : Fin 1) j) := by
  unfold rowV
  rw [cast_self, cast_self, cast_self, cast_self]
  refine (congrArg (· + x7 (ix2 (0 : Fin 1) j)) (dotB _ x6 j)).trans ?_
  refine congrArg (· + x7 (ix2 (0 : Fin 1) j)) (Finset.sum_congr rfl fun r _ => congrArg (· * x6 (ix2 r j)) ?_)
  refine (shapeCast_apply _ _ _ (ix1 r) (by rw [Shape.rowMajor_val_two, Shape.rowMajor_val_one]; show r.val = r.val * 1 + 0; omega)).trans ?_
  refine (Ideal.multiReduction_add_single _ _ _ _ _ (ix1 r)).trans (Finset.sum_congr rfl fun l _ => ?_)
  have hl : reduces_S8x256_S8.lift (ix1 r) l = ix2 r l := funext fun a => Fin.ext (by match a with | ⟨0, _⟩ => rfl | ⟨1, _⟩ => rfl)
  rw [hl]
  exact congrArg (· * x5 (ix2 r l)) (dotA x4 zs r l)

/-- The hidden rows at an index. -/
theorem pay3_apply (x1 : Vec Ideal S1024x128 .f32) (x2 : Vec Ideal S128x256 .f32) (x3 : Vec Ideal S1x256 .f32) (r : Fin 1024) (l : Fin 256) :
    (k0_pay3 x1 x2 x3 (ix2 r l) : EReal) = silu ((∑ s : Fin 128, x1 (ix2 r s) * x2 (ix2 s l)) + x3 (ix2 (0 : Fin 1) l)) := by
  unfold k0_pay3
  rw [cast_self, cast_self, cast_self]
  have hb : broadcastTo S1024x256 x3 broadcasts_S1x256_S1024x256 (ix2 r l) = x3 (ix2 (0 : Fin 1) l) :=
    broadcastTo_apply _ _ _ _ (fun a => match a with | ⟨0, _⟩ => rfl | ⟨1, _⟩ => rfl)
  have e : (addf (F := Ideal) (φ := .f32) (matmul (F := Ideal) (φ₁ := .f32) (φ₂ := .f32) dot_S1024x128_S128x256_S1024x256_1_0_0_1_n_n none x1 x2
      (constant (F := Ideal) S1024x256 .f32 0x00000000#32)) (broadcastTo S1024x256 x3 broadcasts_S1x256_S1024x256) (ix2 r l) : EReal)
      = (∑ s : Fin 128, x1 (ix2 r s) * x2 (ix2 s l)) + x3 (ix2 (0 : Fin 1) l) := by
    rw [← dotZ, ← hb]; rfl
  rw [← e]
  rfl

/-- Atom `a`'s rows of the hidden block. -/
theorem zAt_apply (z : Vec Ideal S1024x256 .f32) (a : Fin 8) (s : Fin 128) (l : Fin 256) :
    (zAt (F := Ideal) z a (ix2 s l) : EReal) = z (ix2 ⟨128 * a.val + s.val, by omega⟩ l) := by
  unfold zAt
  match a with
  | 0 => exact congrArg z (funext fun b => Fin.ext (by match b with | ⟨0, _⟩ => rfl | ⟨1, _⟩ => exact Nat.zero_add _))
  | 1 => exact congrArg z (funext fun b => Fin.ext (by match b with | ⟨0, _⟩ => rfl | ⟨1, _⟩ => exact Nat.zero_add _))
  | 2 => exact congrArg z (funext fun b => Fin.ext (by match b with | ⟨0, _⟩ => rfl | ⟨1, _⟩ => exact Nat.zero_add _))
  | 3 => exact congrArg z (funext fun b => Fin.ext (by match b with | ⟨0, _⟩ => rfl | ⟨1, _⟩ => exact Nat.zero_add _))
  | 4 => exact congrArg z (funext fun b => Fin.ext (by match b with | ⟨0, _⟩ => rfl | ⟨1, _⟩ => exact Nat.zero_add _))
  | 5 => exact congrArg z (funext fun b => Fin.ext (by match b with | ⟨0, _⟩ => rfl | ⟨1, _⟩ => exact Nat.zero_add _))
  | 6 => exact congrArg z (funext fun b => Fin.ext (by match b with | ⟨0, _⟩ => rfl | ⟨1, _⟩ => exact Nat.zero_add _))
  | 7 => exact congrArg z (funext fun b => Fin.ext (by match b with | ⟨0, _⟩ => rfl | ⟨1, _⟩ => exact Nat.zero_add _))

end Cert.KernelIdeal.Seg
-- ==== Proof.Atoms.lean ====
module

public import proofs.«01_k».proof.Proof.RowIdeal

/-!
One atom's row in terms of the arguments, over the extended reals.
-/

@[expose] public section

noncomputable section
namespace Cert.KernelIdeal.Seg
open Idealize.ShloMosaic Idealize.ShloMosaic.ValueIdx
open Cert.KernelIdeal Cert.KernelIdeal.Gen Cert.KernelIdeal.Host1 Cert.Alg

/-- A sum over 256 columns is the left half's sum plus the right half's. -/
theorem sum256 (f : Fin 256 → EReal) : ∑ l, f l = (∑ j : Fin 128, f ⟨j.val, by omega⟩) + ∑ j : Fin 128, f ⟨j.val + 128, by omega⟩ := by
  refine (Fin.sum_univ_add (a := 128) (b := 128) f).trans ?_
  refine congrArg₂ (· + ·) rfl (Finset.sum_congr rfl fun j _ => congrArg f (Fin.ext (Nat.add_comm _ _)))

/-- The placing matrix picks one row at each of the first six columns. -/
theorem pick (o : Fin 8 → EReal) (c : Fin 16) (r0 : Fin 8) (h : r0.val = c.val) (h5 : r0.val ≤ 5) :
    ∑ r, o r * (sel : Vec Ideal S8x16 .f32) (ix2 r c) = o r0 := by
  rw [Finset.sum_eq_single r0]
  · rw [sel_apply, if_pos ⟨h, h5⟩, mul_one]
  · intro r _ hr
    rw [sel_apply, if_neg (fun q => hr (Fin.ext (q.1.trans h.symm))), mul_zero]
  · exact fun q => absurd (Finset.mem_univ _) q

/-- The placing matrix's seventh column is zero. -/
theorem pick_none (o : Fin 8 → EReal) : ∑ r, o r * (sel : Vec Ideal S8x16 .f32) (ix2 r (6 : Fin 16)) = 0 :=
  Finset.sum_eq_zero fun r _ => by rw [sel_apply, if_neg (fun q => by have := q.1; have := q.2; simp at *; omega), mul_zero]

/-- One hidden value of atom `n` at point `s` and channel `j`. -/
def hid (X : Vec Ideal S4096x128x128 .f32) (w : Vec Ideal S128x128 .f32) (b : Vec Ideal S128 .f32) (n : Fin 4096) (s j : Fin 128) : EReal :=
  silu ((∑ i : Fin 128, X (ix3 n s i) * w (ix2 j i)) + b (ix1 j))

/-- The first-layer biases as the kernel's row. -/
abbrev biasRow (x5 x9 : Vec Ideal S128 .f32) : Vec Ideal S1x256 .f32 :=
  shapeCast S1x256 (concatenate S256 0 [⟨S128, x5⟩, ⟨S128, x9⟩] concatenates_S128_S128_S256_d0) shapeCasts_S256_S1x256

/-- The left half of the bias row is the first bias. -/
theorem biasRow_left (x5 x9 : Vec Ideal S128 .f32) (j : Fin 128) : biasRow x5 x9 (ix2 (0 : Fin 1) ⟨j.val, by omega⟩) = x5 (ix1 j) :=
  (shapeCast_apply _ _ _ (ix1 ⟨j.val, by omega⟩) (by rw [Shape.rowMajor_val_two, Shape.rowMajor_val_one]; show j.val = 0 * 256 + j.val; omega)).trans (pair_left _ _ _)

/-- The right half of the bias row is the second bias. -/
theorem biasRow_right (x5 x9 : Vec Ideal S128 .f32) (j : Fin 128) : biasRow x5 x9 (ix2 (0 : Fin 1) ⟨j.val + 128, by omega⟩) = x9 (ix1 j) :=
  (shapeCast_apply _ _ _ (ix1 ⟨j.val + 128, by omega⟩) (by rw [Shape.rowMajor_val_two, Shape.rowMajor_val_one]; show j.val + 128 = 0 * 256 + (j.val + 128); omega)).trans
    (pair_right _ _ _)

/-- The row added to each atom at a column is the bias vector there. -/
theorem addedRow_apply (p : Vec Ideal S128x5 .f32) (x7 x11 : Vec Ideal S1 .f32) (c : Fin 16) :
    (shapeCast S1x16 (biasV p x7 x11) shapeCasts_S16_S1x16) (ix2 (0 : Fin 1) c) = biasV p x7 x11 (ix1 c) :=
  shapeCast_apply _ _ _ (ix1 c) (by rw [Shape.rowMajor_val_two, Shape.rowMajor_val_one]; show c.val = 0 * 16 + c.val; omega)

variable (X : Vec Ideal S4096x128x128 .f32) (p : Vec Ideal S128x5 .f32) (x4 x8 : Vec Ideal S128x128 .f32) (x5 x9 : Vec Ideal S128 .f32)
  (x6 x10 : Vec Ideal S1x128 .f32) (x7 x11 : Vec Ideal S1 .f32)

/-- The block of a grid point holds the point's eight atoms. -/
def IsBlock (t : Fin 512) (x1 : Vec Ideal S1024x128 .f32) : Prop :=
  ∀ (a : Fin 8) (s i : Fin 128), x1 (ix2 ⟨128 * a.val + s.val, by omega⟩ i) = X (ix3 ⟨8 * t.val + a.val, by omega⟩ s i)

variable (t : Fin 512) (x1 : Vec Ideal S1024x128 .f32) (hx : IsBlock X t x1)

/-- The hidden values in the left half are the scalar branch's. -/
theorem z_left (hx : IsBlock X t x1) (a : Fin 8) (s j : Fin 128) :
    (zAt (F := Ideal) (k0_pay3 x1 (wide x4 x8) (biasRow x5 x9)) a (ix2 s ⟨j.val, by omega⟩) : EReal) = hid X x4 x5 ⟨8 * t.val + a.val, by omega⟩ s j := by
  rw [zAt_apply, pay3_apply, biasRow_left]
  unfold hid
  refine congrArg silu (congrArg (· + x5 (ix1 j)) (Finset.sum_congr rfl fun i _ => ?_))
  rw [hx a s i, wide_left]

/-- The hidden values in the right half are the other branch's. -/
theorem z_right (hx : IsBlock X t x1) (a : Fin 8) (s j : Fin 128) :
    (zAt (F := Ideal) (k0_pay3 x1 (wide x4 x8) (biasRow x5 x9)) a (ix2 s ⟨j.val + 128, by omega⟩) : EReal) = hid X x8 x9 ⟨8 * t.val + a.val, by omega⟩ s j := by
  rw [zAt_apply, pay3_apply, biasRow_right]
  unfold hid
  refine congrArg silu (congrArg (· + x9 (ix1 j)) (Finset.sum_congr rfl fun i _ => ?_))
  rw [hx a s i, wide_right]

/-- The row of an atom from the prepared arrays. -/
abbrev theRow (a : Fin 8) : FVec Ideal S1x16 .f32 :=
  rowAt (F := Ideal) x1 (wide x4 x8) (biasRow x5 x9) (amat p) (w2 x6 x10) sel (shapeCast S1x16 (biasV p x7 x11) shapeCasts_S16_S1x16) a

/-- The scalar column of an atom's row. -/
theorem row_zero (hx : IsBlock X t x1) (a : Fin 8) :
    (theRow p x4 x8 x5 x9 x6 x10 x7 x11 x1 a (ix2 (0 : Fin 1) (0 : Fin 16)) : EReal)
      = (∑ j : Fin 128, (∑ s : Fin 128, c128 * hid X x4 x5 ⟨8 * t.val + a.val, by omega⟩ s j) * x6 (ix2 (0 : Fin 1) j)) + x7 (ix1 (0 : Fin 1)) := by
  unfold theRow rowAt
  rw [rowV_apply, pick _ 0 0 rfl (by simp), addedRow_apply, bias_zero, sum256]
  refine congrArg (· + x7 (ix1 (0 : Fin 1))) ?_
  have h2 : (∑ j : Fin 128, (∑ s : Fin 128, amat p (ix2 s (0 : Fin 8)) * zAt (F := Ideal) (k0_pay3 x1 (wide x4 x8) (biasRow x5 x9)) a (ix2 s ⟨j.val + 128, by omega⟩))
      * w2 x6 x10 (ix2 (0 : Fin 8) ⟨j.val + 128, by omega⟩)) = (0 : EReal) :=
    Finset.sum_eq_zero fun j _ => by rw [w2_zero_right, mul_zero]
  refine (congrArg₂ (· + ·) (Finset.sum_congr rfl fun j _ => ?_) h2).trans (add_zero _)
  rw [w2_zero_left]
  refine congrArg (· * x6 (ix2 (0 : Fin 1) j)) (Finset.sum_congr rfl fun s _ => ?_)
  rw [amat_zero, z_left X x4 x8 x5 x9 t x1 hx]

/-- The five other columns of an atom's row. -/
theorem row_succ (hx : IsBlock X t x1) (a : Fin 8) (k : Fin 5) :
    (theRow p x4 x8 x5 x9 x6 x10 x7 x11 x1 a (ix2 (0 : Fin 1) (⟨k.val + 1, by omega⟩ : Fin 16)) : EReal)
      = (∑ j : Fin 128, (∑ s : Fin 128, Ideal.div (p (ix2 s k)) ((128 : ℝ) : EReal) * hid X x8 x9 ⟨8 * t.val + a.val, by omega⟩ s j) * x10 (ix2 (0 : Fin 1) j))
        + x11 (ix1 (0 : Fin 1)) * Ideal.div (∑ s : Fin 128, p (ix2 s k)) ((128 : ℝ) : EReal) := by
  unfold theRow rowAt
  rw [rowV_apply, pick _ ⟨k.val + 1, by omega⟩ ⟨k.val + 1, by omega⟩ rfl (by show k.val + 1 ≤ 5; omega), addedRow_apply, bias_succ, sum256]
  refine congrArg (· + x11 (ix1 (0 : Fin 1)) * Ideal.div (∑ s : Fin 128, p (ix2 s k)) ((128 : ℝ) : EReal)) ?_
  have h1 : (∑ j : Fin 128, (∑ s : Fin 128, amat p (ix2 s (⟨k.val + 1, by omega⟩ : Fin 8)) * zAt (F := Ideal) (k0_pay3 x1 (wide x4 x8) (biasRow x5 x9)) a (ix2 s ⟨j.val, by omega⟩))
      * w2 x6 x10 (ix2 (⟨k.val + 1, by omega⟩ : Fin 8) ⟨j.val, by omega⟩)) = (0 : EReal) :=
    Finset.sum_eq_zero fun j _ => by rw [w2_succ_left, mul_zero]
  refine (congrArg₂ (· + ·) h1 (Finset.sum_congr rfl fun j _ => ?_)).trans (zero_add _)
  rw [w2_succ_right]
  refine congrArg (· * x10 (ix2 (0 : Fin 1) j)) (Finset.sum_congr rfl fun s _ => ?_)
  rw [amat_succ, z_right X x4 x8 x5 x9 t x1 hx]

/-- The counting column of an atom's row. -/
theorem row_six (a : Fin 8) :
    (theRow p x4 x8 x5 x9 x6 x10 x7 x11 x1 a (ix2 (0 : Fin 1) (6 : Fin 16)) : EReal) = 1 := by
  unfold theRow rowAt
  rw [rowV_apply, pick_none, addedRow_apply, bias_six, zero_add]

end Cert.KernelIdeal.Seg
-- ==== Proof.Blocks.lean ====
module

public import proofs.«01_k».proof.Proof.RegionIdeal
public import proofs.«01_k».proof.Proof.Atoms

/-!
The blocks a grid point reads, as parts of the prepared arrays.
-/

@[expose] public section

noncomputable section
namespace Cert.KernelIdeal.Seg
open Idealize.ShloMosaic Idealize.ShloMosaic.ValueIdx Idealize.ShloMosaic.TcCoe
open Cert.KernelIdeal Cert.KernelIdeal.Gen Cert.KernelIdeal.Host1 Cert.Alg

variable (m : (ℓ : Loc nD τ sig) → Buf (Elt Ideal) ℓ) (c : Dev nD) (t : Fin cfg0.N)

/-- The block of the wide weights is the whole array. -/
theorem blk1 : (iblk m c 1 t : Vec Ideal S128x256 .f32) = V m c main_v43 := by
  funext j
  unfold iblk
  rw [View.read_apply, cast_eq]
  show V m c main_v43 _ = V m c main_v43 _
  congr 1
  funext a; apply Fin.ext
  match a with
  | ⟨0, _⟩ => exact (Pipeline.Window.rect_emb_val (cfg0.win 1) t j 0).trans (by show 0 * 128 + (j 0).val = (j 0).val; omega)
  | ⟨1, _⟩ => exact (Pipeline.Window.rect_emb_val (cfg0.win 1) t j 1).trans (by show 0 * 256 + (j 1).val = (j 1).val; omega)

/-- The block of the bias row is the whole array. -/
theorem blk2 : (iblk m c 2 t : Vec Ideal S1x256 .f32) = V m c main_v45 := by
  funext j
  unfold iblk
  rw [View.read_apply, cast_eq]
  show V m c main_v45 _ = V m c main_v45 _
  congr 1
  funext a; apply Fin.ext
  match a with
  | ⟨0, _⟩ => exact (Pipeline.Window.rect_emb_val (cfg0.win 2) t j 0).trans (by show 0 * 1 + (j 0).val = (j 0).val; omega)
  | ⟨1, _⟩ => exact (Pipeline.Window.rect_emb_val (cfg0.win 2) t j 1).trans (by show 0 * 256 + (j 1).val = (j 1).val; omega)

/-- The block of the averaging matrix is the whole array. -/
theorem blk3 : (iblk m c 3 t : Vec Ideal S128x8 .f32) = V m c main_v50 := by
  funext j
  unfold iblk
  rw [View.read_apply, cast_eq]
  show V m c main_v50 _ = V m c main_v50 _
  congr 1
  funext a; apply Fin.ext
  match a with
  | ⟨0, _⟩ => exact (Pipeline.Window.rect_emb_val (cfg0.win 3) t j 0).trans (by show 0 * 128 + (j 0).val = (j 0).val; omega)
  | ⟨1, _⟩ => exact (Pipeline.Window.rect_emb_val (cfg0.win 3) t j 1).trans (by show 0 * 8 + (j 1).val = (j 1).val; omega)

/-- The block of the second weights is the whole array. -/
theorem blk4 : (iblk m c 4 t : Vec Ideal S8x256 .f32) = V m c main_v65 := by
  funext j
  unfold iblk
  rw [View.read_apply, cast_eq]
  show V m c main_v65 _ = V m c main_v65 _
  congr 1
  funext a; apply Fin.ext
  match a with
  | ⟨0, _⟩ => exact (Pipeline.Window.rect_emb_val (cfg0.win 4) t j 0).trans (by show 0 * 8 + (j 0).val = (j 0).val; omega)
  | ⟨1, _⟩ => exact (Pipeline.Window.rect_emb_val (cfg0.win 4) t j 1).trans (by show 0 * 256 + (j 1).val = (j 1).val; omega)

/-- The block of the selector is the whole array. -/
theorem blk5 : (iblk m c 5 t : Vec Ideal S8x16 .f32) = V m c main_v90 := by
  funext j
  unfold iblk
  rw [View.read_apply, cast_eq]
  show V m c main_v90 _ = V m c main_v90 _
  congr 1
  funext a; apply Fin.ext
  match a with
  | ⟨0, _⟩ => exact (Pipeline.Window.rect_emb_val (cfg0.win 5) t j 0).trans (by show 0 * 8 + (j 0).val = (j 0).val; omega)
  | ⟨1, _⟩ => exact (Pipeline.Window.rect_emb_val (cfg0.win 5) t j 1).trans (by show 0 * 16 + (j 1).val = (j 1).val; omega)

/-- The block of the added row is the whole array. -/
theorem blk6 : (iblk m c 6 t : Vec Ideal S1x16 .f32) = V m c main_v105 := by
  funext j
  unfold iblk
  rw [View.read_apply, cast_eq]
  show V m c main_v105 _ = V m c main_v105 _
  congr 1
  funext a; apply Fin.ext
  match a with
  | ⟨0, _⟩ => exact (Pipeline.Window.rect_emb_val (cfg0.win 6) t j 0).trans (by show 0 * 1 + (j 0).val = (j 0).val; omega)
  | ⟨1, _⟩ => exact (Pipeline.Window.rect_emb_val (cfg0.win 6) t j 1).trans (by show 0 * 16 + (j 1).val = (j 1).val; omega)

/-- The words a point reads are the argument's. -/
theorem blk7 (a : Fin 8) : wordAt (F := Ideal) (iblk m c 7 t) (grid0.coords t) a
    = m ((c : Thread nD τ).loc main_arg2) (ix1 (n := 4096) ⟨8 * t.val + a.val, by have : t.val < 512 := t.isLt; omega⟩) := by
  unfold wordAt iblk
  rw [View.read_apply, cast_eq]
  show V m c main_arg2 _ = _
  rw [V_main_arg2]
  show m ((c : Thread nD τ).loc main_arg2) _ = _
  congr 1
  funext b; apply Fin.ext
  match b with
  | ⟨0, _⟩ => exact (Pipeline.Window.rect_emb_val (cfg0.win 7) t _ 0).trans (by show 0 * 4096 + (8 * ((grid0.coords t) 0).val + a.val) = 8 * t.val + a.val; rw [coord_val]; omega)

/-- The first block is the point's eight atoms. -/
theorem blk0 : IsBlock (m ((c : Thread nD τ).loc main_arg0)) ⟨t.val, t.isLt⟩ (iblk m c 0 t) := by
  intro a s i
  have ht : t.val < 512 := t.isLt
  unfold iblk
  rw [View.read_apply, cast_eq]
  show V m c main_v40 _ = _
  rw [Host1.v40]
  refine shapeCast_apply _ _ _ _ ?_
  have h0 : (((cfg0.win 0).blk t).view.emb (ix2 (⟨128 * a.val + s.val, by omega⟩ : Fin 1024) i) 0).val = t.val * 1024 + (128 * a.val + s.val) :=
    (Pipeline.Window.rect_emb_val (cfg0.win 0) t _ 0).trans (by show ((grid0.coords t) 0).val % 2 ^ 32 * 1024 + (128 * a.val + s.val) = _; rw [coord_val]; omega)
  have h1 : (((cfg0.win 0).blk t).view.emb (ix2 (⟨128 * a.val + s.val, by omega⟩ : Fin 1024) i) 1).val = i.val :=
    (Pipeline.Window.rect_emb_val (cfg0.win 0) t _ 1).trans (by show 0 * 128 + i.val = i.val; omega)
  refine (Shape.rowMajor_val_three (d := ![4096, 128, 128]) _).trans ?_
  refine Eq.trans ?_ (Shape.rowMajor_val_two (d := ![524288, 128]) _).symm
  refine Eq.trans ?_ (congrArg₂ (fun p q : ℕ => p * 128 + q) h0 h1).symm
  show ((8 * t.val + a.val) * 128 + s.val) * 128 + i.val = (t.val * 1024 + (128 * a.val + s.val)) * 128 + i.val
  omega

end Cert.KernelIdeal.Seg
-- ==== Proof.Sums.lean ====
module

public import proofs.«01_k».proof.Proof.Blocks

/-!
What the accumulator holds after the last point's atoms: at each row the sum of the rows of the atoms whose word names it.
-/

@[expose] public section

noncomputable section
namespace Cert.KernelIdeal.Seg
open Idealize.ShloMosaic Idealize.ShloMosaic.ValueIdx Idealize.ShloMosaic.TcCoe
open Cert.KernelIdeal Cert.KernelIdeal.Gen Cert.KernelIdeal.Host1 Cert.Alg

/-- Where a row's entries lie in the accumulator. -/
theorem rowRect_emb (w : BitVec 32) (hw : k0_chk1 w) (g : Fin 128) (hg : w.toNat = g.val) (j : Fin 16) :
    (rowRect w hw).emb (ix2 (0 : Fin 1) j) = ix2 g j := by
  funext a; apply Fin.ext
  match a with
  | ⟨0, _⟩ => show w.toNat + 1 * 0 = g.val; omega
  | ⟨1, _⟩ => show 0 + 1 * j.val = j.val; omega

/-- Adding a row, read at an index. -/
theorem addRow_apply (w : BitVec 32) (hw : w.toNat < 128) (r : FVec Ideal S1x16 .f32) (X : Vec Ideal S128x16 .f32) (g : Fin 128) (j : Fin 16) :
    (addRow w r X (ix2 g j) : EReal) = X (ix2 g j) + if w.toNat = g.val then (r (ix2 (0 : Fin 1) j) : EReal) else 0 := by
  have hc := chk_of_lt w hw
  unfold addRow
  rw [dif_pos hc]
  by_cases h : w.toNat = g.val
  · rw [if_pos h, ← rowRect_emb w hc g h j, Rect.overlay_emb]
    unfold k0_pay5
    rw [cast_self]
    rfl
  · rw [if_neg h, add_zero]
    refine Rect.overlay_of_not_mem _ _ _ (fun hm => ?_)
    obtain ⟨x, hx⟩ := (rowRect w hc).exists_idx_of_mem hm
    have e := congrArg (fun q : S128x16.Idx => (q 0).val) hx
    have hx0 : (x 0).val = 0 := by have h1 : (x 0).val < 1 := (x 0).isLt; omega
    have e' : w.toNat + 1 * (x 0).val = g.val := e
    omega

/-- A point's eight atoms, read at an index. -/
theorem eight_apply (x1 : Vec Ideal S1024x128 .f32) (x2 : Vec Ideal S128x256 .f32) (x3 : Vec Ideal S1x256 .f32) (x4 : Vec Ideal S128x8 .f32) (x5 : Vec Ideal S8x256 .f32)
    (x6 : Vec Ideal S8x16 .f32) (x7 : Vec Ideal S1x16 .f32) (w : Fin 8 → BitVec 32) (hw : ∀ a, (w a).toNat < 128) (X : Vec Ideal S128x16 .f32) (g : Fin 128) (j : Fin 16) :
    (eight x1 x2 x3 x4 x5 x6 x7 w X (ix2 g j) : EReal)
      = X (ix2 g j) + ∑ a : Fin 8, if (w a).toNat = g.val then (rowAt x1 x2 x3 x4 x5 x6 x7 a (ix2 (0 : Fin 1) j) : EReal) else 0 := by
  unfold eight
  rw [addRow_apply _ (hw 7), addRow_apply _ (hw 6), addRow_apply _ (hw 5), addRow_apply _ (hw 4), addRow_apply _ (hw 3), addRow_apply _ (hw 2),
    addRow_apply _ (hw 1), addRow_apply _ (hw 0), Fin.sum_univ_eight]
  simp only [add_assoc]

variable (m : (ℓ : Loc nD τ sig) → Buf (Elt Ideal) ℓ) (c : Dev nD)

/-- The harmonics, from the sphere points. -/
abbrev sph : Vec Ideal S128x5 .f32 := Cert.ReferenceIdeal.Read.val_main_v39 (F := Ideal) (m ((c : Thread nD τ).loc main_arg1))

/-- An argument array at the run's start. -/
abbrev A4 : Vec Ideal S128x128 .f32 := m ((c : Thread nD τ).loc main_arg4)
/-- The irreducible branch's first weights. -/
abbrev A8 : Vec Ideal S128x128 .f32 := m ((c : Thread nD τ).loc main_arg8)
/-- The scalar branch's first bias. -/
abbrev A5 : Vec Ideal S128 .f32 := m ((c : Thread nD τ).loc main_arg5)
/-- The irreducible branch's first bias. -/
abbrev A9 : Vec Ideal S128 .f32 := m ((c : Thread nD τ).loc main_arg9)
/-- The scalar branch's second weights. -/
abbrev A6 : Vec Ideal S1x128 .f32 := m ((c : Thread nD τ).loc main_arg6)
/-- The irreducible branch's second weights. -/
abbrev A10 : Vec Ideal S1x128 .f32 := m ((c : Thread nD τ).loc main_arg10)
/-- The scalar branch's second bias. -/
abbrev A7 : Vec Ideal S1 .f32 := m ((c : Thread nD τ).loc main_arg7)
/-- The irreducible branch's second bias. -/
abbrev A11 : Vec Ideal S1 .f32 := m ((c : Thread nD τ).loc main_arg11)
/-- The atoms' features. -/
abbrev A0 : Vec Ideal S4096x128x128 .f32 := m ((c : Thread nD τ).loc main_arg0)
/-- The atoms' segment words. -/
abbrev A2 : IVec S4096 32 := m ((c : Thread nD τ).loc main_arg2)

/-- The number of atom `a` of point `t`. -/
abbrev atom (t : Fin cfg0.N) (a : Fin 8) : Fin 4096 := ⟨8 * t.val + a.val, by have : t.val < 512 := t.isLt; omega⟩

/-- The row of atom `a` of point `t`. -/
abbrev rowOf (t : Fin cfg0.N) (a : Fin 8) : FVec Ideal S1x16 .f32 :=
  theRow (sph m c) (A4 m c) (A8 m c) (A5 m c) (A9 m c) (A6 m c) (A10 m c) (A7 m c) (A11 m c) (iblk m c 0 t) a

/-- What atom `a` of point `t` adds at an index. -/
def term (g : Fin 128) (j : Fin 16) (t : Fin cfg0.N) (a : Fin 8) : EReal :=
  if (A2 m c (ix1 (atom t a)) : BitVec 32).toNat = g.val then (rowOf m c t a (ix2 (0 : Fin 1) j) : EReal) else 0

/-- One point's step at an index. -/
theorem step_apply (hb : ∀ j, (A2 m c j : BitVec 32).toNat < 128) (t : Fin cfg0.N) (X : Vec Ideal S128x16 .f32) (g : Fin 128) (j : Fin 16) :
    (step m c t X (ix2 g j) : EReal) = X (ix2 g j) + ∑ a : Fin 8, term m c g j t a := by
  unfold step
  rw [blk1, blk2, blk3, blk4, blk5, blk6, Host1.v43, Host1.v45, Host1.v50, Host1.v65, Host1.v90, Host1.v105]
  refine (eight_apply _ _ _ _ _ _ _ _ (fun a => by rw [blk7]; exact hb _) X g j).trans ?_
  refine congrArg (X (ix2 g j) + ·) (Finset.sum_congr rfl fun a _ => ?_)
  rw [blk7]
  rfl

/-- The accumulator after points `0` to `n`. -/
theorem sums_apply (hb : ∀ j, (A2 m c j : BitVec 32).toNat < 128) (n : ℕ) (g : Fin 128) (j : Fin 16) :
    (sums m c n (ix2 g j) : EReal) = ∑ t : Fin (n + 1), ∑ a : Fin 8, term m c g j (pt t.val) a := by
  induction n with
  | zero =>
    have e : (k0_pay2 (F := Ideal) (ix2 g j) : EReal) = 0 := Ideal.ofBits_zero_f32
    refine (step_apply m c hb (pt 0) (k0_pay2 (F := Ideal)) g j).trans ?_
    rw [e, zero_add, Fin.sum_univ_one]
    rfl
  | succ n ih =>
    refine (step_apply m c hb (pt (n + 1)) (sums m c n) g j).trans ?_
    rw [ih, Fin.sum_univ_castSucc (n := n + 1)]
    rfl

/-- The accumulator after every point's atoms: a sum over all atoms. -/
theorem sums_total (hb : ∀ j, (A2 m c j : BitVec 32).toNat < 128) (g : Fin 128) (j : Fin 16) (f : Fin 4096 → EReal)
    (hf : ∀ (t : Fin cfg0.N) (a : Fin 8), (rowOf m c t a (ix2 (0 : Fin 1) j) : EReal) = f (atom t a)) :
    (sums m c 511 (ix2 g j) : EReal) = ∑ n : Fin 4096, if (A2 m c (ix1 n) : BitVec 32).toNat = g.val then f n else 0 := by
  rw [sums_apply m c hb 511]
  refine Eq.trans ?_ (Equiv.sum_comp (finProdFinEquiv (m := 512) (n := 8)) (fun n : Fin 4096 => if (A2 m c (ix1 n) : BitVec 32).toNat = g.val then f n else 0))
  rw [Fintype.sum_prod_type]
  refine Finset.sum_congr rfl fun t _ => Finset.sum_congr rfl fun a _ => ?_
  have e : (finProdFinEquiv (m := 512) (n := 8) (t, a) : Fin 4096) = atom (pt t.val) a := Fin.ext (by
    have h : (pt t.val).val = t.val := Nat.mod_eq_of_lt t.isLt
    show a.val + 8 * t.val = 8 * (pt t.val).val + a.val
    omega)
  rw [e, ← hf]
  rfl

end Cert.KernelIdeal.Seg
-- ==== Proof.Output.lean ====
module

public import proofs.«01_k».proof.Proof.Sums
public import Idealize.ShloMosaic.Lib.Pipeline.Value

/-!
What the launch leaves in the result arrays: the last point's quotient of the sums, cut into the two results.
-/

@[expose] public section

noncomputable section
namespace Cert.KernelIdeal.Seg
open Idealize.ShloMosaic Idealize.ShloMosaic.ValueIdx Idealize.ShloMosaic.StableHlo
open Cert.KernelIdeal Cert.KernelIdeal.Gen

variable (m : (ℓ : Loc nD τ sig) → Buf (Elt Ideal) ℓ) (c : Dev nD)

/-- The last grid point. -/
abbrev lastPt : Fin cfg0.N := pt 511

/-- The last grid point is number 511. -/
theorem lastPt_val : lastPt.val = 511 := rfl

/-- The quotient the last point leaves. -/
abbrev quot : Vec Ideal S128x16 .f32 := k0_pay1 (F := Ideal) (sums m c 511)

/-- The accumulator after the last grid point holds the quotients. -/
theorem acc_last : acc m c lastPt = quot m c := if_pos rfl

/-- The quotient as contents of the array the launch writes. -/
abbrev result : Buf (Elt Ideal) ((c.tc : Thread nD τ).loc main_v106) := quot m c

/-- The one write-back carries the quotient. -/
theorem flushed_last (t : Fin cfg0.N) (hf : (cfg0.win 8).flush t = true) :
    (dats m 0 c).flushed 8 t = ((cfg0.win 8).blk t).view.read (Elt Ideal) (result m c) := by
  have h := (flush0_8 t).mp hf
  have ht : t.val < 512 := t.isLt
  obtain rfl : t = lastPt := Fin.ext (by rw [lastPt_val]; omega)
  show (cfg0.win 8).cut (grid0.coords lastPt) ((dats m 0 c).after 8 lastPt) = _
  rw [after0_8, acc_last]
  have hz : (fun a => win0_8.index lastPt a * main_v106.ty.shape.size a) = fun _ => 0 := funext fun a => by match a with | ⟨0, _⟩ => rfl | ⟨1, _⟩ => rfl
  exact (Memref.read_access_unit_zero (Elt Ideal) main_v106 hz (fun a => by rw [congrFun hz a]; simp) (result m c)).symm

/-- So the launch leaves the quotient in its result array. -/
theorem final_out : (dats m 0 c).arrAt 8 cfg0.N = result m c :=
  (dats m 0 c).arrAt_eq_of_cover 8 (result m c) (flushed_last m c) fun i =>
    ⟨lastPt, (flush0_8 lastPt).mpr rfl, by
      show i ∈ ((View.whole main_v106).slice (win0_8.rect lastPt)).set
      rw [View.set_slice_whole, Rect.mem_set_unit]
      intro a
      have h0 : (i 0 : Nat) < 128 := (i 0).isLt
      have h1 : (i 1 : Nat) < 16 := (i 1).isLt
      match a with
      | ⟨0, _⟩ => exact ⟨Nat.zero_le _, lt_of_lt_of_eq h0 rfl⟩
      | ⟨1, _⟩ => exact ⟨Nat.zero_le _, lt_of_lt_of_eq h1 rfl⟩⟩

/-- Distinct windows have distinct arrays. -/
theorem arrs_inj : Function.Injective (Pipeline.arrRef spec0) := by decide

/-- The first result: the quotient's first column. -/
theorem tail_v108 : Pipeline.afterTail₀ cfgs (dats m) 0 (V0 m) [hostOps1] c main_v108
    = shapeCast S128 (extractStridedSlice S128x1 ![0, 0] (quot m c) slices_S128x16_S128x1_0_0) shapeCasts_S128x1_S128 := by
  unfold Pipeline.afterTail₀
  have e := (Pipeline.withArrays_arr spec0 arrs_inj c (V0 m c) (fun w => (dats m 0 c).arrAt w (cfgs 0).N) 8).trans (final_out m c)
  generalize hW : Pipeline.withArrays (cfgs 0).spec c (V0 m c) (fun w => (dats m 0 c).arrAt w (cfgs 0).N) = W
  have e' : W (Proc.devRef .tc main_v106) = quot m c := by rw [← hW]; exact e
  simp only [hostOps1, List.flatten_cons, List.flatten_nil, List.append_nil]
  after_reads_simp
  rw [e']
  rfl

/-- The second result: the quotient's next five columns. -/
theorem tail_v109 : Pipeline.afterTail₀ cfgs (dats m) 0 (V0 m) [hostOps1] c main_v109
    = extractStridedSlice S128x5 ![0, 1] (quot m c) slices_S128x16_S128x5_0_1 := by
  unfold Pipeline.afterTail₀
  have e := (Pipeline.withArrays_arr spec0 arrs_inj c (V0 m c) (fun w => (dats m 0 c).arrAt w (cfgs 0).N) 8).trans (final_out m c)
  generalize hW : Pipeline.withArrays (cfgs 0).spec c (V0 m c) (fun w => (dats m 0 c).arrAt w (cfgs 0).N) = W
  have e' : W (Proc.devRef .tc main_v106) = quot m c := by rw [← hW]; exact e
  simp only [hostOps1, List.flatten_cons, List.flatten_nil, List.append_nil]
  after_reads_simp
  rw [e']

/-- One element of the quotient: the sum over the count, the count at least one. -/
theorem quot_apply (g : Fin 128) (j : Fin 16) :
    (quot m c (ix2 g j) : EReal) = Ideal.div (sums m c 511 (ix2 g j)) (max (sums m c 511 (ix2 g (6 : Fin 16)) : EReal) 1) := by
  unfold quot k0_pay1
  generalize sums m c 511 = X
  show Ideal.div (shapeCast S128x16 X shapeCasts_S128x16_S128x16 (ix2 g j)) _ = _
  rw [shapeCast_self]
  refine congrArg (Ideal.div _) ?_
  refine (broadcastTo_apply _ _ _ (ix2 g (0 : Fin 1)) (fun a => by match a with | ⟨0, _⟩ => rfl | ⟨1, _⟩ => rfl)).trans ?_
  refine congrArg₂ (fun a b : EReal => max a b) ?_ Ideal.ofBits_one_f32
  refine (extractStridedSlice_apply _ _ _ _ (ix2 g (6 : Fin 16)) (fun a => by match a with | ⟨0, _⟩ => exact (Nat.zero_add _).symm | ⟨1, _⟩ => rfl)).trans ?_
  rfl

/-- The first result at a segment. -/
theorem v108_at (g : Fin 128) : (shapeCast S128 (extractStridedSlice S128x1 ![0, 0] (quot m c) slices_S128x16_S128x1_0_0) shapeCasts_S128x1_S128 (ix1 g) : EReal)
    = quot m c (ix2 g (0 : Fin 16)) := by
  refine (shapeCast_apply _ _ _ (ix2 g (0 : Fin 1)) (by rw [Shape.rowMajor_val_two, Shape.rowMajor_val_one]; show g.val * 1 + 0 = g.val; omega)).trans ?_
  exact extractStridedSlice_apply _ _ _ _ (ix2 g (0 : Fin 16)) (fun a => by match a with | ⟨0, _⟩ => exact (Nat.zero_add _).symm | ⟨1, _⟩ => rfl)

/-- The second result at a segment and component. -/
theorem v109_at (g : Fin 128) (k : Fin 5) : (extractStridedSlice S128x5 ![0, 1] (quot m c) slices_S128x16_S128x5_0_1 (ix2 g k) : EReal)
    = quot m c (ix2 g ⟨k.val + 1, by omega⟩) :=
  extractStridedSlice_apply _ _ _ _ (ix2 g ⟨k.val + 1, by omega⟩) (fun a => by match a with | ⟨0, _⟩ => exact (Nat.zero_add _).symm | ⟨1, _⟩ => exact Nat.add_comm _ _)

end Cert.KernelIdeal.Seg
-- ==== Proof.RefSph.lean ====
module

public import Idealize.ShloMosaic.Lib.IdealHost
public import proofs.«01_k».proof.Proof.HostB

/-!
The harmonics are real numbers wherever no row of the sphere points has a zero sum of squares.
-/

@[expose] public section

noncomputable section
namespace Cert.ReferenceIdeal.Sph
open Idealize.ShloMosaic Idealize.ShloMosaic.ValueIdx
open Cert.ReferenceIdeal Cert.ReferenceIdeal.Gen Cert.ReferenceIdeal.Read

/-- A value that is a real number. -/
def Fin' (a : EReal) : Prop := ∃ r : ℝ, a = (r : EReal)

/-- A product of reals is real. -/
theorem Fin'.mul {a b : EReal} (ha : Fin' a) (hb : Fin' b) : Fin' (a * b) := by
  obtain ⟨r, rfl⟩ := ha; obtain ⟨s, rfl⟩ := hb; exact ⟨r * s, (EReal.coe_mul r s).symm⟩

/-- A sum of reals is real. -/
theorem Fin'.add {a b : EReal} (ha : Fin' a) (hb : Fin' b) : Fin' (a + b) := by
  obtain ⟨r, rfl⟩ := ha; obtain ⟨s, rfl⟩ := hb; exact ⟨r + s, (EReal.coe_add r s).symm⟩

/-- A difference of reals is real. -/
theorem Fin'.sub {a b : EReal} (ha : Fin' a) (hb : Fin' b) : Fin' (a - b) := by
  obtain ⟨r, rfl⟩ := ha; obtain ⟨s, rfl⟩ := hb; exact ⟨r - s, (EReal.coe_sub r s).symm⟩

/-- A real over a positive real is real. -/
theorem Fin'.div {a b : EReal} (ha : Fin' a) (hb : ∃ r : ℝ, 0 < r ∧ b = (r : EReal)) : Fin' (Ideal.div a b) := by
  obtain ⟨r, rfl⟩ := ha; obtain ⟨s, hs, rfl⟩ := hb
  refine ⟨r * s⁻¹, ?_⟩
  unfold Ideal.div
  rw [if_neg (by exact_mod_cast hs.ne'), ← EReal.coe_inv, ← EReal.coe_mul]

/-- The constant for the square root of 15 is real. -/
theorem c15 : Fin' (Ideal.ofBits .f32 0x4077DEF6#32) := by
  simp [Ideal.ofBits, Ideal.ieee, -EReal.coe_mul]; exact ⟨_, rfl⟩
/-- The constant one half is real. -/
theorem cHalf : Fin' (Ideal.ofBits .f32 0x3F000000#32) := by
  simp [Ideal.ofBits, Ideal.ieee, -EReal.coe_mul]; exact ⟨_, rfl⟩
/-- The constant for the square root of 5 is real. -/
theorem c5 : Fin' (Ideal.ofBits .f32 0x400F1BBD#32) := by
  simp [Ideal.ofBits, Ideal.ieee, -EReal.coe_mul]; exact ⟨_, rfl⟩
/-- The constant for half the square root of 15 is real. -/
theorem c15h : Fin' (Ideal.ofBits .f32 0x3FF7DEF6#32) := by
  simp [Ideal.ofBits, Ideal.ieee, -EReal.coe_mul]; exact ⟨_, rfl⟩
/-- The constant for the square root of 4 pi is a positive real. -/
theorem cPi : ∃ r : ℝ, 0 < r ∧ Ideal.ofBits .f32 0x4062DFC5#32 = (r : EReal) := by
  simp [Ideal.ofBits, Ideal.ieee, -EReal.coe_mul]

/-- A square is not negative. -/
theorem sq_nonneg' (a : EReal) : 0 ≤ a * a := by
  induction a using EReal.rec with
  | bot => simp
  | top => simp
  | coe r => rw [← EReal.coe_mul]; exact_mod_cast mul_self_nonneg r

/-- A row's entry over the root of its sum of squares is real, where that sum is not zero. -/
theorem unit_real (f : Fin 3 → EReal) (h : 0 < ∑ q, f q * f q) (q : Fin 3) : Fin' (Ideal.div (f q) (Ideal.sqrt (0 + ∑ q, f q * f q))) := by
  rw [zero_add]
  have hle : f q * f q ≤ ∑ q, f q * f q := Finset.single_le_sum (f := fun q => f q * f q) (fun i _ => sq_nonneg' _) (Finset.mem_univ q)
  generalize ∑ q, f q * f q = S at h hle
  induction S using EReal.rec with
  | bot => simp at h
  | top =>
    refine ⟨0, ?_⟩
    show Ideal.div (f q) ⊤ = _
    unfold Ideal.div
    rw [if_neg (by simp)]; simp
  | coe s =>
    have hs : 0 < s := by exact_mod_cast h
    have hf : Fin' (f q) := by
      generalize f q = a at hle
      induction a using EReal.rec with
      | bot => simp at hle
      | top => simp at hle
      | coe r => exact ⟨r, rfl⟩
    refine hf.div ⟨Real.sqrt s, Real.sqrt_pos.mpr hs, ?_⟩
    show (if s < 0 then ⊥ else (Real.sqrt s : EReal)) = _
    rw [if_neg (not_lt.mpr hs.le)]

variable (x1 : Vec Ideal S128x3 .f32)

/-- The unit rows are real. -/
theorem v2_real (h : ∀ s : Fin 128, 0 < ∑ q : Fin 3, (x1 (ix2 s q) : EReal) * x1 (ix2 s q)) (i : S128x3.Idx) : Fin' (val_main_v2 (F := Ideal) x1 i) := by
  obtain ⟨s, q, rfl⟩ : ∃ (s : Fin 128) (q : Fin 3), i = ix2 s q := ⟨i 0, i 1, eq_ix2 i⟩
  rw [val_main_v2_apply, val_main_v1_apply, val_main_v0_apply, val_main_call0_v2_apply, val_main_call0_v1_apply, val_main_call0_cst_apply]
  have e := unit_real (fun q => x1 (ix2 s q)) (h s) q
  have e0 : (FloatOps.ofBits .f32 0x00000000#32 : Ideal .f32) = (0 : EReal) := Ideal.ofBits_zero_f32
  rw [e0]
  refine (congrArg Fin' (congrArg (fun S : EReal => Ideal.div (x1 (ix2 s q)) (Ideal.sqrt (0 + S))) (Finset.sum_congr rfl fun k _ => ?_))).mpr e
  rw [val_main_call0_v0_apply]
  have ek : idx_main_call0_v1 (idx_main_call0_v2 (idx_main_v1 (ix2 s q))) k = ix2 s k := funext fun a => Fin.ext (by match a with | ⟨0, _⟩ => rfl | ⟨1, _⟩ => rfl)
  rw [ek]
  rfl

section
variable (h : ∀ i : S128x3.Idx, Fin' (val_main_v2 (F := Ideal) x1 i))
include h

/-- The normalized first coordinate is real. -/
theorem v4_real (i : S128.Idx) : Fin' (val_main_v4 (F := Ideal) x1 i) := by rw [val_main_v4_apply, val_main_v3_apply]; exact h _
/-- The normalized second coordinate is real. -/
theorem v6_real (i : S128.Idx) : Fin' (val_main_v6 (F := Ideal) x1 i) := by rw [val_main_v6_apply, val_main_v5_apply]; exact h _
/-- The normalized third coordinate is real. -/
theorem v8_real (i : S128.Idx) : Fin' (val_main_v8 (F := Ideal) x1 i) := by rw [val_main_v8_apply, val_main_v7_apply]; exact h _

/-- The first harmonic is real. -/
theorem v11_real (i : S128.Idx) : Fin' (val_main_v11 (F := Ideal) x1 i) := by
  rw [val_main_v11_apply, val_main_v10_apply, val_main_v9_apply]
  exact (Fin'.mul c15 (v4_real x1 h i)).mul (v8_real x1 h i)

/-- The second harmonic is real. -/
theorem v14_real (i : S128.Idx) : Fin' (val_main_v14 (F := Ideal) x1 i) := by
  rw [val_main_v14_apply, val_main_v13_apply, val_main_v12_apply]
  exact (Fin'.mul c15 (v4_real x1 h i)).mul (v6_real x1 h i)

/-- The third harmonic is real. -/
theorem v23_real (i : S128.Idx) : Fin' (val_main_v23 (F := Ideal) x1 i) := by
  rw [val_main_v23_apply, val_main_v22_apply, val_main_v21_apply, val_main_v20_apply, val_main_v19_apply, val_main_v18_apply, val_main_v17_apply, val_main_v16_apply,
    val_main_v15_apply]
  exact Fin'.mul c5 (((v6_real x1 h i).mul (v6_real x1 h i)).sub (cHalf.mul (((v4_real x1 h i).mul (v4_real x1 h i)).add ((v8_real x1 h i).mul (v8_real x1 h i)))))

/-- The fourth harmonic is real. -/
theorem v26_real (i : S128.Idx) : Fin' (val_main_v26 (F := Ideal) x1 i) := by
  rw [val_main_v26_apply, val_main_v25_apply, val_main_v24_apply]
  exact (Fin'.mul c15 (v6_real x1 h i)).mul (v8_real x1 h i)

/-- The fifth harmonic is real. -/
theorem v31_real (i : S128.Idx) : Fin' (val_main_v31 (F := Ideal) x1 i) := by
  rw [val_main_v31_apply, val_main_v30_apply, val_main_v29_apply, val_main_v28_apply, val_main_v27_apply]
  exact Fin'.mul c15h (((v8_real x1 h i).mul (v8_real x1 h i)).sub ((v4_real x1 h i).mul (v4_real x1 h i)))

/-- Every harmonic, before the last division, is real. -/
theorem v37_real (s : Fin 128) (k : Fin 5) : Fin' (val_main_v37 (F := Ideal) x1 (ix2 s k)) := by
  have P := fun k hk x hx pre hpre j hj => Cert.KernelIdeal.Host1.piece_col (n := 1) [⟨S128x1, val_main_v32 (F := Ideal) x1⟩, ⟨S128x1, val_main_v33 (F := Ideal) x1⟩, ⟨S128x1, val_main_v34 (F := Ideal) x1⟩,
    ⟨S128x1, val_main_v35 (F := Ideal) x1⟩, ⟨S128x1, val_main_v36 (F := Ideal) x1⟩] concatenates_S128x1_S128x1_S128x1_S128x1_S128x1_S128x5_d1 s j k hk x hx pre hpre (0 : Fin 1) hj
  match k with
  | ⟨0, _⟩ => rw [show val_main_v37 (F := Ideal) x1 (ix2 s ⟨0, _⟩) = val_main_v32 (F := Ideal) x1 (ix2 s (0 : Fin 1)) from P 0 (by simp) _ rfl 0 rfl _ rfl, val_main_v32_apply]; exact v11_real x1 h _
  | ⟨1, _⟩ => rw [show val_main_v37 (F := Ideal) x1 (ix2 s ⟨1, _⟩) = val_main_v33 (F := Ideal) x1 (ix2 s (0 : Fin 1)) from P 1 (by simp) _ rfl 1 rfl _ rfl, val_main_v33_apply]; exact v14_real x1 h _
  | ⟨2, _⟩ => rw [show val_main_v37 (F := Ideal) x1 (ix2 s ⟨2, _⟩) = val_main_v34 (F := Ideal) x1 (ix2 s (0 : Fin 1)) from P 2 (by simp) _ rfl 2 rfl _ rfl, val_main_v34_apply]; exact v23_real x1 h _
  | ⟨3, _⟩ => rw [show val_main_v37 (F := Ideal) x1 (ix2 s ⟨3, _⟩) = val_main_v35 (F := Ideal) x1 (ix2 s (0 : Fin 1)) from P 3 (by simp) _ rfl 3 rfl _ rfl, val_main_v35_apply]; exact v26_real x1 h _
  | ⟨4, _⟩ => rw [show val_main_v37 (F := Ideal) x1 (ix2 s ⟨4, _⟩) = val_main_v36 (F := Ideal) x1 (ix2 s (0 : Fin 1)) from P 4 (by simp) _ rfl 4 rfl _ rfl, val_main_v36_apply]; exact v31_real x1 h _

end

/-- Every harmonic is real. -/
theorem v39_real (h : ∀ s : Fin 128, 0 < ∑ q : Fin 3, (x1 (ix2 s q) : EReal) * x1 (ix2 s q)) (s : Fin 128) (k : Fin 5) : Fin' (val_main_v39 (F := Ideal) x1 (ix2 s k)) := by
  rw [val_main_v39_apply, val_main_v38_apply]
  exact (v37_real x1 (v2_real x1 h) s k).div cPi

end Cert.ReferenceIdeal.Sph
-- ==== Proof.RefRows.lean ====
module

public import proofs.«01_k».proof.Proof.RefSph
public import proofs.«01_k».proof.Proof.Atoms

/-!
What the reference gives one atom, over the extended reals.
-/

@[expose] public section

noncomputable section
namespace Cert.ReferenceIdeal.Rows
open Idealize.ShloMosaic Idealize.ShloMosaic.ValueIdx
open Cert.ReferenceIdeal Cert.ReferenceIdeal.Gen Cert.ReferenceIdeal.Read
open Cert.KernelIdeal.Seg (hid)
open Cert.Alg

variable (x0 : Vec Ideal S4096x128x128 .f32) (x1 : Vec Ideal S128x3 .f32)

/-- The quotient form of the gated unit. -/
theorem silu_eq (t : EReal) : t * Ideal.div (FloatOps.ofBits (F := Ideal) .f32 0x3F800000#32 : EReal) ((FloatOps.ofBits (F := Ideal) .f32 0x3F800000#32 : EReal) + Ideal.exp (-t)) = silu t := by
  rw [show (FloatOps.ofBits (F := Ideal) .f32 0x3F800000#32 : EReal) = 1 from Ideal.ofBits_one_f32]
  rfl

/-- The reference's first-layer argument, first branch. -/
theorem v44_at (w : Vec Ideal S128x128 .f32) (b : Vec Ideal S128 .f32) (n : Fin 4096) (s j : Fin 128) :
    val_main_v44 (F := Ideal) x0 w b (ix3 n s j) = (∑ i : Fin 128, (x0 (ix3 n s i) : EReal) * w (ix2 j i)) + b (ix1 j) := by
  rw [val_main_v44_apply, val_main_v43_apply, val_main_v42_apply, val_main_v41_apply]
  refine congrArg₂ (fun a b : EReal => a + b) (Finset.sum_congr rfl fun k _ => ?_) (congrArg b ?_)
  · rw [val_main_v40_apply]
    exact congrArg₂ (fun a b : EReal => a * b) (congrArg x0 (eq_ix3 _)) (congrArg w (eq_ix2 _))
  · exact eq_ix1 _

/-- The reference's hidden values, first branch. -/
theorem v45_at (w : Vec Ideal S128x128 .f32) (b : Vec Ideal S128 .f32) (n : Fin 4096) (s j : Fin 128) :
    val_main_v45 (F := Ideal) x0 w b (ix3 n s j) = hid x0 w b n s j := by
  rw [val_main_v45_apply, val_main_call1_v5_apply, val_main_call1_v4_apply, val_main_call1_cst_0_apply, val_main_call1_v3_apply, val_main_call1_v2_apply,
    val_main_call1_cst_apply, val_main_call1_v1_apply, val_main_call1_v0_apply, v44_at]
  exact silu_eq _

/-- The reference's first-layer argument, second branch. -/
theorem v69_at (w : Vec Ideal S128x128 .f32) (b : Vec Ideal S128 .f32) (n : Fin 4096) (s j : Fin 128) :
    val_main_v69 (F := Ideal) x0 w b (ix3 n s j) = (∑ i : Fin 128, (x0 (ix3 n s i) : EReal) * w (ix2 j i)) + b (ix1 j) := by
  rw [val_main_v69_apply, val_main_v68_apply, val_main_v67_apply, val_main_v66_apply]
  refine congrArg₂ (fun a b : EReal => a + b) (Finset.sum_congr rfl fun k _ => ?_) (congrArg b ?_)
  · rw [val_main_v65_apply]
    exact congrArg₂ (fun a b : EReal => a * b) (congrArg x0 (eq_ix3 _)) (congrArg w (eq_ix2 _))
  · exact eq_ix1 _

/-- The reference's hidden values, second branch. -/
theorem v70_at (w : Vec Ideal S128x128 .f32) (b : Vec Ideal S128 .f32) (n : Fin 4096) (s j : Fin 128) :
    val_main_v70 (F := Ideal) x0 w b (ix3 n s j) = hid x0 w b n s j := by
  rw [val_main_v70_apply, val_main_call2_v5_apply, val_main_call2_v4_apply, val_main_call2_cst_0_apply, val_main_call2_v3_apply, val_main_call2_v2_apply,
    val_main_call2_cst_apply, val_main_call2_v1_apply, val_main_call2_v0_apply, v69_at]
  exact silu_eq _

/-- One point's scalar output. -/
theorem v50_at (x4 : Vec Ideal S128x128 .f32) (x5 : Vec Ideal S128 .f32) (x6 : Vec Ideal S1x128 .f32) (x7 : Vec Ideal S1 .f32) (n : Fin 4096) (s : Fin 128) :
    val_main_v50 (F := Ideal) x0 x4 x5 x6 x7 (ix3 n s (0 : Fin 1)) = (∑ j : Fin 128, hid x0 x4 x5 n s j * (x6 (ix2 (0 : Fin 1) j) : EReal)) + x7 (ix1 (0 : Fin 1)) := by
  rw [val_main_v50_apply, val_main_v49_apply, val_main_v48_apply, val_main_v47_apply]
  refine congrArg₂ (fun a b : EReal => a + b) (Finset.sum_congr rfl fun k _ => ?_) (congrArg x7 (eq_ix1 _))
  rw [val_main_v46_apply]
  exact congrArg₂ (fun a b : EReal => a * b) ((congrArg (val_main_v45 (F := Ideal) x0 x4 x5) (eq_ix3 _)).trans (v45_at x0 x4 x5 n s k)) (congrArg x6 (eq_ix2 _))

/-- One point's output of the second branch. -/
theorem v75_at (x8 : Vec Ideal S128x128 .f32) (x9 : Vec Ideal S128 .f32) (x10 : Vec Ideal S1x128 .f32) (x11 : Vec Ideal S1 .f32) (n : Fin 4096) (s : Fin 128) :
    val_main_v75 (F := Ideal) x0 x8 x9 x10 x11 (ix3 n s (0 : Fin 1)) = (∑ j : Fin 128, hid x0 x8 x9 n s j * (x10 (ix2 (0 : Fin 1) j) : EReal)) + x11 (ix1 (0 : Fin 1)) := by
  rw [val_main_v75_apply, val_main_v74_apply, val_main_v73_apply, val_main_v72_apply]
  refine congrArg₂ (fun a b : EReal => a + b) (Finset.sum_congr rfl fun k _ => ?_) (congrArg x11 (eq_ix1 _))
  rw [val_main_v71_apply]
  exact congrArg₂ (fun a b : EReal => a * b) ((congrArg (val_main_v70 (F := Ideal) x0 x8 x9) (eq_ix3 _)).trans (v70_at x0 x8 x9 n s k)) (congrArg x10 (eq_ix2 _))

/-- One atom's scalar: the mean over the points. -/
theorem v60_at (x4 : Vec Ideal S128x128 .f32) (x5 : Vec Ideal S128 .f32) (x6 : Vec Ideal S1x128 .f32) (x7 : Vec Ideal S1 .f32) (n : Fin 4096) :
    val_main_v60 (F := Ideal) x0 x4 x5 x6 x7 (ix1 n)
      = Ideal.div (∑ s : Fin 128, ((∑ j : Fin 128, hid x0 x4 x5 n s j * (x6 (ix2 (0 : Fin 1) j) : EReal)) + x7 (ix1 (0 : Fin 1)))) ((128 : ℝ) : EReal) := by
  rw [val_main_v60_apply, val_main_v53_apply, val_main_v52_apply, val_main_cst_7_apply, val_main_v51_apply, val_main_cst_6_apply]
  refine congrArg₂ Ideal.div ?_ Cert.KernelIdeal.Host1.ofBits_128
  rw [show (FloatOps.ofBits .f32 0x00000000#32 : Ideal .f32) = (0 : EReal) from Ideal.ofBits_zero_f32]
  refine (zero_add (M := EReal) _).trans (Finset.sum_congr rfl fun s _ => ?_)
  refine (congrArg (val_main_v50 (F := Ideal) x0 x4 x5 x6 x7) ?_).trans (v50_at x0 x4 x5 x6 x7 n s)
  exact funext fun a => Fin.ext (by match a with | ⟨0, _⟩ => exact Nat.div_one n.val | ⟨1, _⟩ => rfl | ⟨2, _⟩ => rfl)

/-- One atom's five components: the mean over the points of output times harmonic. -/
theorem v82_at (x8 : Vec Ideal S128x128 .f32) (x9 : Vec Ideal S128 .f32) (x10 : Vec Ideal S1x128 .f32) (x11 : Vec Ideal S1 .f32) (n : Fin 4096) (k : Fin 5) :
    val_main_v82 (F := Ideal) x0 x1 x8 x9 x10 x11 (ix2 n k)
      = Ideal.div (∑ s : Fin 128, ((∑ j : Fin 128, hid x0 x8 x9 n s j * (x10 (ix2 (0 : Fin 1) j) : EReal)) + x11 (ix1 (0 : Fin 1))) * val_main_v39 (F := Ideal) x1 (ix2 s k))
          ((128 : ℝ) : EReal) := by
  rw [val_main_v82_apply, val_main_v81_apply, val_main_v80_apply]
  refine congrArg₂ Ideal.div ?_ Cert.KernelIdeal.Host1.ofBits_128
  refine (congrArg (fun z : EReal => z + _) (Ideal.ofBits_zero_f32)).trans ?_
  refine (zero_add (M := EReal) _).trans (Finset.sum_congr rfl fun s _ => ?_)
  rw [val_main_v79_apply, val_main_v78_apply, val_main_v77_apply, val_main_v76_apply]
  refine congrArg₂ (fun a b : EReal => a * b) ((congrArg (val_main_v75 (F := Ideal) x0 x8 x9 x10 x11) (eq_ix3 _)).trans (v75_at x0 x8 x9 x10 x11 n s))
    (congrArg (val_main_v39 (F := Ideal) x1) ?_)
  have hs := s.isLt
  have hk := k.isLt
  exact funext fun a => Fin.ext (by match a with | ⟨0, _⟩ => show ((0 * 128 + s.val) * 5 + k.val) / 5 = s.val; omega | ⟨1, _⟩ => show ((0 * 128 + s.val) * 5 + k.val) % 5 = k.val; omega)

end Cert.ReferenceIdeal.Rows
-- ==== Proof.RefSeg.lean ====
module

public import proofs.«01_k».proof.Proof.RefRows
public import Idealize.ShloMosaic.Lib.Routing.OpsOne
public import Idealize.ShloMosaic.Lib.ValueIdxRank1

/-!
The reference's segment sums as sums over the atoms, and its two results.
-/

@[expose] public section

noncomputable section
namespace Cert.ReferenceIdeal.Rows
open Idealize.ShloMosaic Idealize.ShloMosaic.ValueIdx Idealize.ShloMosaic.Routing
open Cert.ReferenceIdeal Cert.ReferenceIdeal.Gen Cert.ReferenceIdeal.Read
open Cert.KernelIdeal.Seg (hid)

/-- A word below 128 is the same read signed or unsigned. -/
theorem signed_word (w : BitVec 32) (h : w.toNat < 128) (g : Nat) : w.toInt = (g : Int) ↔ w.toNat = g := by
  have e : w.toInt = (w.toNat : Int) := BitVec.toInt_eq_toNat_of_lt (by omega)
  rw [e]; omega

/-- The scatter of one value per atom. -/
abbrev dV := scatter_S128_S4096x1_S4096_n_0_0_1
/-- The scatter of one row per atom. -/
abbrev dM := scatter_S128x5_S4096x1_S4096x5_1_0_0_1

/-- Atom `n` of the vector scatter reads word `n`. -/
theorem dV_at (n : Fin 4096) : dV.siIdx (ix1 n) ⟨0, by decide⟩ = ix2 n (0 : Fin 1) := by
  funext b; match b with | ⟨0, _⟩ => rfl | ⟨1, _⟩ => rfl

/-- Atom `n` of the row scatter reads word `n`. -/
theorem dM_at (n : Fin 4096) (k : Fin 5) : dM.siIdx (ix2 n k) ⟨0, by decide⟩ = ix2 n (0 : Fin 1) := by
  funext b; match b with | ⟨0, _⟩ => rfl | ⟨1, _⟩ => rfl

/-- Where one atom's scalar lands. -/
theorem dV_lands (idx : IVec S4096x1 32) (n : Fin 4096) (g : Fin 128) : dV.resultIdx? (ix1 n) idx = some (ix1 g) ↔ (idx (ix2 n (0 : Fin 1))).toInt = (g.val : Int) := by
  have hs : dV.start (ix1 n) idx 0 = (idx (ix2 n (0 : Fin 1))).toInt := by
    unfold ScatterDims.start
    rw [dif_pos (show (0 : Fin 1) ∈ dV.scatterDimsToOperandDims by decide)]
    exact congrArg (fun i => (idx i).toInt) (dV_at n)
  have hw : dV.window (ix1 n) 0 = 0 := by
    unfold ScatterDims.window
    rw [dif_neg (show ¬(0 : Fin 1) ∈ dV.sKept by decide)]
  refine (resultIdx?_ix1 dV (ix1 n) idx g).trans ?_
  rw [hs, hw]; simp

/-- Where one atom's component lands. -/
theorem dM_lands (idx : IVec S4096x1 32) (n : Fin 4096) (k : Fin 5) (g : Fin 128) (j : Fin 5) :
    dM.resultIdx? (ix2 n k) idx = some (ix2 g j) ↔ (idx (ix2 n (0 : Fin 1))).toInt = (g.val : Int) ∧ k = j := by
  have hs : dM.start (ix2 n k) idx 0 = (idx (ix2 n (0 : Fin 1))).toInt := by
    unfold ScatterDims.start
    rw [dif_pos (show (0 : Fin 2) ∈ dM.scatterDimsToOperandDims by decide)]
    exact congrArg (fun i => (idx i).toInt) (dM_at n k)
  have hs1 : dM.start (ix2 n k) idx 1 = 0 := by
    unfold ScatterDims.start
    rw [dif_neg (show ¬(1 : Fin 2) ∈ dM.scatterDimsToOperandDims by decide)]
  have hw : dM.window (ix2 n k) 0 = 0 := by
    unfold ScatterDims.window
    rw [dif_neg (show ¬(0 : Fin 2) ∈ dM.sKept by decide)]
  have hw1 : dM.window (ix2 n k) 1 = k.val := by
    unfold ScatterDims.window
    rw [dif_pos (show (1 : Fin 2) ∈ dM.sKept by decide)]
    rfl
  refine (resultIdx?_ix2 dM (ix2 n k) idx g j).trans ?_
  rw [hs, hs1, hw, hw1, Fin.ext_iff]; simp

/-- A segment sum of scalars from zero. -/
theorem seg_vec (x2 : Vec Ideal S4096 .i32) (hb : ∀ j, (x2 j : BitVec 32).toNat < 128) (z : Vec Ideal S128 .f32) (hz : ∀ i, (z i : EReal) = 0)
    (idx : Vec Ideal S4096x1 .i32) (hi : ∀ n : Fin 4096, idx (ix2 n (0 : Fin 1)) = x2 (ix1 n)) (u : Vec Ideal S4096 .f32) (g : Fin 128) :
    (Host.scatterAdd (F := Ideal) (φ := .f32) dV z idx u (ix1 g) : EReal) = ∑ n : Fin 4096, if (x2 (ix1 n) : BitVec 32).toNat = g.val then (u (ix1 n) : EReal) else 0 := by
  show (z (ix1 g) : EReal) + ∑ j ∈ Finset.univ.filter (fun j => dV.resultIdx? j idx = some (ix1 g)), (u j : EReal) = _
  rw [hz, zero_add, Finset.sum_filter, ← Equiv.sum_comp (idxEquiv1 (n := 4096)).symm]
  refine Finset.sum_congr rfl fun n _ => ?_
  show (if dV.resultIdx? (ix1 n) idx = some (ix1 g) then (u (ix1 n) : EReal) else 0) = _
  exact if_congr ((dV_lands idx n g).trans (by rw [hi]; exact signed_word _ (hb _) _)) rfl rfl

/-- A segment sum of rows of five from zero. -/
theorem seg_mat (x2 : Vec Ideal S4096 .i32) (hb : ∀ j, (x2 j : BitVec 32).toNat < 128) (z : Vec Ideal S128x5 .f32) (hz : ∀ i, (z i : EReal) = 0)
    (idx : Vec Ideal S4096x1 .i32) (hi : ∀ n : Fin 4096, idx (ix2 n (0 : Fin 1)) = x2 (ix1 n)) (u : Vec Ideal S4096x5 .f32) (g : Fin 128) (k : Fin 5) :
    (Host.scatterAdd (F := Ideal) (φ := .f32) dM z idx u (ix2 g k) : EReal) = ∑ n : Fin 4096, if (x2 (ix1 n) : BitVec 32).toNat = g.val then (u (ix2 n k) : EReal) else 0 := by
  show (z (ix2 g k) : EReal) + ∑ j ∈ Finset.univ.filter (fun j => dM.resultIdx? j idx = some (ix2 g k)), (u j : EReal) = _
  rw [hz, zero_add, Finset.sum_filter, ← Equiv.sum_comp (idxEquiv2 (n0 := 4096) (n1 := 5)).symm, Fintype.sum_prod_type]
  refine Finset.sum_congr rfl fun n _ => ?_
  show (∑ q : Fin 5, if dM.resultIdx? (ix2 n q) idx = some (ix2 g k) then (u (ix2 n q) : EReal) else 0) = _
  rw [Finset.sum_eq_single k (fun q _ hq => if_neg fun h => hq ((dM_lands idx n q g k).mp h).2) (fun h => absurd (Finset.mem_univ _) h)]
  refine if_congr ((dM_lands idx n k g k).trans ?_) rfl rfl
  rw [hi]
  exact (and_iff_left rfl).trans (signed_word _ (hb _) _)

section
variable (x0 : Vec Ideal S4096x128x128 .f32) (x1 : Vec Ideal S128x3 .f32) (x2 : Vec Ideal S4096 .i32) (hb : ∀ j, (x2 j : BitVec 32).toNat < 128)
include hb

/-- The reference's divisor: the segment's count, at least one. -/
theorem v59_at (g : Fin 128) : (val_main_v59 (F := Ideal) x2 (ix1 g) : EReal) = max (∑ n : Fin 4096, if (x2 (ix1 n) : BitVec 32).toNat = g.val then (1 : EReal) else 0) 1 := by
  rw [val_main_v59_apply, val_main_v58_apply, val_main_cst_10_apply]
  refine congrArg₂ (fun a b : EReal => max a b) ?_ Ideal.ofBits_one_f32
  unfold val_main_v57
  refine (seg_vec x2 hb _ (fun i => ?_) _ (fun n => ?_) _ g).trans (Finset.sum_congr rfl fun n _ => if_congr Iff.rfl ?_ rfl)
  · rw [val_main_v55_apply, val_main_cst_9_apply]; exact Ideal.ofBits_zero_f32
  · rw [val_main_v56_apply]; exact congrArg x2 (eq_ix1 _)
  · rw [val_main_v54_apply, val_main_cst_8_apply]; exact Ideal.ofBits_one_f32

/-- The reference's scalar result. -/
theorem v64_at (x4 : Vec Ideal S128x128 .f32) (x5 : Vec Ideal S128 .f32) (x6 : Vec Ideal S1x128 .f32) (x7 : Vec Ideal S1 .f32) (g : Fin 128) :
    (val_main_v64 (F := Ideal) x0 x2 x4 x5 x6 x7 (ix1 g) : EReal)
      = Ideal.div (∑ n : Fin 4096, if (x2 (ix1 n) : BitVec 32).toNat = g.val then (val_main_v60 (F := Ideal) x0 x4 x5 x6 x7 (ix1 n) : EReal) else 0)
          (max (∑ n : Fin 4096, if (x2 (ix1 n) : BitVec 32).toNat = g.val then (1 : EReal) else 0) 1) := by
  rw [val_main_v64_apply]
  refine congrArg₂ Ideal.div ?_ (v59_at x2 hb g)
  unfold val_main_v63
  refine seg_vec x2 hb _ (fun i => ?_) _ (fun n => ?_) _ g
  · rw [val_main_v61_apply, val_main_cst_11_apply]; exact Ideal.ofBits_zero_f32
  · rw [val_main_v62_apply]; exact congrArg x2 (eq_ix1 _)

/-- The reference's five-component result. -/
theorem v88_at (x8 : Vec Ideal S128x128 .f32) (x9 : Vec Ideal S128 .f32) (x10 : Vec Ideal S1x128 .f32) (x11 : Vec Ideal S1 .f32) (g : Fin 128) (k : Fin 5) :
    (val_main_v88 (F := Ideal) x0 x1 x2 x8 x9 x10 x11 (ix2 g k) : EReal)
      = Ideal.div (∑ n : Fin 4096, if (x2 (ix1 n) : BitVec 32).toNat = g.val then (val_main_v82 (F := Ideal) x0 x1 x8 x9 x10 x11 (ix2 n k) : EReal) else 0)
          (max (∑ n : Fin 4096, if (x2 (ix1 n) : BitVec 32).toNat = g.val then (1 : EReal) else 0) 1) := by
  rw [val_main_v88_apply]
  refine congrArg₂ Ideal.div ?_ ?_
  · unfold val_main_v85
    refine seg_mat x2 hb _ (fun i => ?_) _ (fun n => ?_) _ g k
    · rw [val_main_v83_apply]; exact Ideal.ofBits_zero_f32
    · rw [val_main_v84_apply]; exact congrArg x2 (eq_ix1 _)
  · rw [val_main_v87_apply, val_main_v86_apply]
    exact (congrArg (val_main_v59 (F := Ideal) x2) (eq_ix1 _)).trans (v59_at x2 hb g)

end
end Cert.ReferenceIdeal.Rows
-- ==== Proof.Values.lean ====
module

public import proofs.«01_k».proof.Proof.Output
public import proofs.«01_k».proof.Proof.RefSeg
public import proofs.«01_k».proof.Proof.PreTame

/-!
The kernel's two results are the reference's, over the extended reals, under `tame_inputs`.
-/

@[expose] public section

noncomputable section
namespace Cert.KernelIdeal.Seg
open Idealize.ShloMosaic hiding ix1 ix2 ix3 eq_ix1 eq_ix2
open Idealize.ShloMosaic.ValueIdx
open Cert.KernelIdeal Cert.KernelIdeal.Gen Cert.Alg
open Cert.ReferenceIdeal.Sph (Fin')

/-- An absolute value below infinity is a real number's. -/
theorem real_of_olt (x : Ideal .f32) (h : FloatOps.cmpf .olt (FloatOps.hostAbsf x) (FloatOps.ofBits .f32 0x7F800000#32 : Ideal .f32) = 1#1) : Fin' x := by
  have htop : Ideal.ofBits .f32 0x7F800000#32 = ⊤ := by simp [Ideal.ofBits, Ideal.ieee]
  have h' : Ideal.cmp .olt (max (x : EReal) (-(x : EReal))) (Ideal.ofBits .f32 0x7F800000#32) = 1 := h
  rw [htop, Ideal.cmp_olt_eq_one] at h'
  revert h'
  generalize (x : EReal) = y
  induction y using EReal.rec with
  | bot => simp
  | top => simp
  | coe r => exact fun _ => ⟨r, rfl⟩

/-- The host's row sum of squares over the extended reals. -/
theorem row_sum (x1 : Vec Ideal S128x3 .f32) (s : Fin 128) (hr : Shape.ReducesTo S128x3 [1] Cert.Pre_tame_inputs.S128) (z : EReal) :
    Ideal.hostReduceAdd hr (fun i => (x1 i : EReal) * x1 i) z (ix1 s) = z + ∑ q : Fin 3, (x1 (ix2 s q) : EReal) * x1 (ix2 s q) := by
  generalize hy : (fun i => (x1 i : EReal) * x1 i) = y
  refine (Ideal.hostReduceAdd_single hr (by decide) y z (ix1 s)).trans ?_
  refine congrArg (fun S : EReal => z + S) (Finset.sum_congr rfl fun q _ => ?_)
  subst hy
  refine congrArg (fun i => (x1 i : EReal) * x1 i) ?_
  exact funext fun a => Fin.ext (by match a with | ⟨0, _⟩ => rfl | ⟨1, _⟩ => rfl)

/-- A row whose sum of squares compares above zero has a positive sum of squares. -/
theorem row_pos (x1 : Vec Ideal S128x3 .f32) (s : Fin 128) (hr : Shape.ReducesTo S128x3 [1] Cert.Pre_tame_inputs.S128) (hp : 0 < Cert.Pre_tame_inputs.S_.numel)
    (h : FloatOps.cmpf .ogt (Host.reduceAdd (mulf x1 x1) (constant (F := Ideal) Cert.Pre_tame_inputs.S_ .f32 0x00000000#32) hr hp (ix1 s))
      (FloatOps.ofBits .f32 0x00000000#32 : Ideal .f32) = 1#1) : 0 < ∑ q : Fin 3, (x1 (ix2 s q) : EReal) * x1 (ix2 s q) := by
  have h2 := (Ideal.cmp_ogt_eq_one _ _).mp h
  have h3 := lt_of_lt_of_eq h2 (row_sum x1 s hr (Ideal.ofBits .f32 0x00000000#32))
  rw [Ideal.ofBits_zero_f32, zero_add] at h3
  exact lt_of_eq_of_lt Ideal.ofBits_zero_f32.symm h3

variable (m : (ℓ : Loc nD τ sig) → Buf (Elt Ideal) ℓ) (c : Dev nD)

/-- The sphere points' array. -/
abbrev A1 : Vec Ideal S128x3 .f32 := m ((c.tc : Thread nD τ).loc main_arg1)

/-- `tame_inputs` on the launch's arrays. -/
abbrev Tame : Prop := Cert.Hyp.Parts (F := Ideal) (A0 m c) (A1 m c) (A2 m c) (A6 m c) (A8 m c) (A9 m c) (A10 m c) (A11 m c)

/-- The hidden values of the second branch are real. -/
theorem hid_real (X : Vec Ideal S4096x128x128 .f32) (w : Vec Ideal S128x128 .f32) (b : Vec Ideal S128 .f32) (hX : ∀ i, Fin' (X i)) (hw : ∀ i, Fin' (w i)) (hb : ∀ i, Fin' (b i))
    (n : Fin 4096) (s j : Fin 128) : Fin' (hid X w b n s j) := by
  have e : Fin' ((∑ i : Fin 128, (X (ix3 n s i) : EReal) * w (ix2 j i)) + b (ix1 j)) := by
    refine Fin'.add ?_ (hb _)
    have : ∀ S : Finset (Fin 128), Fin' (∑ i ∈ S, (X (ix3 n s i) : EReal) * w (ix2 j i)) := fun S => by
      classical
      induction S using Finset.induction_on with
      | empty => exact ⟨0, by simp⟩
      | insert a S ha ih => rw [Finset.sum_insert ha]; exact ((hX _).mul (hw _)).add ih
    exact this _
  obtain ⟨r, hr⟩ := e
  unfold hid
  rw [hr]
  exact silu_real r

variable (h : Tame m c)
include h

/-- Column 6 of the sums counts the atoms of each segment. -/
theorem count_col (g : Fin 128) : (sums m c 511 (ix2 g (6 : Fin 16)) : EReal) = ∑ n : Fin 4096, if (A2 m c (ix1 n) : BitVec 32).toNat = g.val then (1 : EReal) else 0 :=
  sums_total m c h.words g 6 (fun _ => 1) fun t a => row_six (sph m c) (A4 m c) (A8 m c) (A5 m c) (A9 m c) (A6 m c) (A10 m c) (A7 m c) (A11 m c) (iblk m c 0 t) a

/-- One atom's scalar in the kernel's row is the reference's. -/
theorem scalar_atom (t : Fin cfg0.N) (a : Fin 8) :
    (rowOf m c t a (ix2 (0 : Fin 1) (0 : Fin 16)) : EReal) = Cert.ReferenceIdeal.Read.val_main_v60 (F := Ideal) (A0 m c) (A4 m c) (A5 m c) (A6 m c) (A7 m c) (ix1 (atom t a)) := by
  choose w hw using fun j : Fin 128 => real_of_olt _ (h.f6 (ix2 (0 : Fin 1) j))
  refine (row_zero (A0 m c) (sph m c) (A4 m c) (A8 m c) (A5 m c) (A9 m c) (A6 m c) (A10 m c) (A7 m c) (A11 m c) ⟨t.val, t.isLt⟩ (iblk m c 0 t) (blk0 m c t) a).trans ?_
  refine Eq.trans ?_ (Cert.ReferenceIdeal.Rows.v60_at (A0 m c) (A4 m c) (A5 m c) (A6 m c) (A7 m c) (atom t a)).symm
  have hw' : ∀ j, (A6 m c (ix2 (0 : Fin 1) j) : EReal) = (w j : EReal) := hw
  simp only [hw']
  exact scalar_row (fun s j => hid (A0 m c) (A4 m c) (A5 m c) (atom t a) s j) (fun s j => silu_ne_bot _) w _

/-- One atom's component in the kernel's row is the reference's. -/
theorem irrep_atom (k : Fin 5) (t : Fin cfg0.N) (a : Fin 8) :
    (rowOf m c t a (ix2 (0 : Fin 1) (⟨k.val + 1, by omega⟩ : Fin 16)) : EReal)
      = Cert.ReferenceIdeal.Read.val_main_v82 (F := Ideal) (A0 m c) (A1 m c) (A8 m c) (A9 m c) (A10 m c) (A11 m c) (ix2 (atom t a) k) := by
  choose w hw using fun j : Fin 128 => real_of_olt _ (h.f10 (ix2 (0 : Fin 1) j))
  choose p hp using fun s : Fin 128 => Cert.ReferenceIdeal.Sph.v39_real (A1 m c) (fun s => row_pos (A1 m c) s _ _ (h.rows (ix1 s))) s k
  choose z hz using fun s j => hid_real (A0 m c) (A8 m c) (A9 m c) (fun i => real_of_olt _ (h.f0 i)) (fun i => real_of_olt _ (h.f8 i)) (fun i => real_of_olt _ (h.f9 i)) (atom t a) s j
  obtain ⟨b, hb⟩ := real_of_olt _ (h.f11 (ix1 (0 : Fin 1)))
  refine (row_succ (A0 m c) (sph m c) (A4 m c) (A8 m c) (A5 m c) (A9 m c) (A6 m c) (A10 m c) (A7 m c) (A11 m c) ⟨t.val, t.isLt⟩ (iblk m c 0 t) (blk0 m c t) a k).trans ?_
  refine Eq.trans ?_ (Cert.ReferenceIdeal.Rows.v82_at (A0 m c) (A1 m c) (A8 m c) (A9 m c) (A10 m c) (A11 m c) (atom t a) k).symm
  have hw' : ∀ j, (A10 m c (ix2 (0 : Fin 1) j) : EReal) = (w j : EReal) := hw
  have hp' : ∀ s, (sph m c (ix2 s k) : EReal) = (p s : EReal) := hp
  have hz' : ∀ s j, hid (A0 m c) (A8 m c) (A9 m c) (atom t a) s j = (z s j : EReal) := hz
  have hb' : (A11 m c (ix1 (0 : Fin 1)) : EReal) = (b : EReal) := hb
  have e := irrep_row z w b p
  simp only [← hz', ← hw', ← hb', ← hp'] at e
  exact e

/-- THE FIRST RESULT is the reference's. -/
theorem first_eq : shapeCast S128 (extractStridedSlice S128x1 ![0, 0] (quot m c) slices_S128x16_S128x1_0_0) shapeCasts_S128x1_S128
    = Cert.ReferenceIdeal.Read.val_main_v64 (F := Ideal) (A0 m c) (A2 m c) (A4 m c) (A5 m c) (A6 m c) (A7 m c) := by
  funext i
  obtain ⟨g, rfl⟩ : ∃ g : Fin 128, i = ix1 g := ⟨i 0, eq_ix1 i⟩
  refine (v108_at m c g).trans ((quot_apply m c g 0).trans ?_)
  refine Eq.trans ?_ (Cert.ReferenceIdeal.Rows.v64_at (A0 m c) (A2 m c) h.words (A4 m c) (A5 m c) (A6 m c) (A7 m c) g).symm
  exact congrArg₂ (fun a b : EReal => Ideal.div a (max b 1)) (sums_total m c h.words g 0 _ (scalar_atom m c h)) (count_col m c h g)

/-- THE SECOND RESULT is the reference's. -/
theorem second_eq : extractStridedSlice S128x5 ![0, 1] (quot m c) slices_S128x16_S128x5_0_1
    = Cert.ReferenceIdeal.Read.val_main_v88 (F := Ideal) (A0 m c) (A1 m c) (A2 m c) (A8 m c) (A9 m c) (A10 m c) (A11 m c) := by
  funext i
  obtain ⟨g, k, rfl⟩ : ∃ (g : Fin 128) (k : Fin 5), i = ix2 g k := ⟨i 0, i 1, eq_ix2 i⟩
  refine (v109_at m c g k).trans ((quot_apply m c g _).trans ?_)
  refine Eq.trans ?_ (Cert.ReferenceIdeal.Rows.v88_at (A0 m c) (A1 m c) (A2 m c) h.words (A8 m c) (A9 m c) (A10 m c) (A11 m c) g k).symm
  exact congrArg₂ (fun a b : EReal => Ideal.div a (max b 1))
    (sums_total m c h.words g _ (fun n => Cert.ReferenceIdeal.Read.val_main_v82 (F := Ideal) (A0 m c) (A1 m c) (A8 m c) (A9 m c) (A10 m c) (A11 m c) (ix2 n k)) (irrep_atom m c h k))
    (count_col m c h g)

end Cert.KernelIdeal.Seg
-- ==== Proof.lean ====
/-
  The proof of `Cert.Claim`: the claims of the certificate, each from the module that proves it.
-/
module

public import proofs.«01_k».proof.Defs
public import proofs.«01_k».proof.Proof.Region
public import proofs.«01_k».proof.Proof.RegionIdeal
public import proofs.«01_k».proof.Proof.PreTame
public import proofs.«01_k».proof.Proof.Values
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem

/-- The printed kernel runs, at the machine's words, for every `batch` in range. -/
theorem frame_kernel : Cert.quiescent_Kernel := fun m ρ h =>
  Cert.Kernel.Seg.frame m ρ fun c j => Cert.Hyp.words_lt _ _ _ _ _ _ _ _ _ _ _ _ (h c) j

/-- The same text at the extended reals. -/
theorem frame_ideal : Cert.quiescent_KernelIdeal := fun m ρ h =>
  Cert.KernelIdeal.Seg.frame m ρ fun c j => Cert.Hyp.words_lt _ _ _ _ _ _ _ _ _ _ _ _ (h c) j

/-- The reference runs on every input. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- `frame_ideal` under the stronger precondition of the value claim. -/
theorem frame_ideal_tame : Cert.quiescent_KernelIdeal_pre_tame_inputs := fun m ρ h =>
  Cert.KernelIdeal.Seg.frame m ρ fun c j => (Cert.Hyp.parts _ _ _ _ _ _ _ _ _ _ _ _ (h c)).words j

/-- `frame_reference` under the stronger precondition of the value claim. -/
theorem frame_reference_tame : Cert.quiescent_ReferenceIdeal_pre_tame_inputs := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The first result on device `c`: the reference's mean of the scalar branch, of the kernel's own arguments. -/
abbrev first (m : (ℓ : Loc Cert.KernelIdeal.nD Cert.KernelIdeal.τ Cert.KernelIdeal.sig) → Buf (Elt Ideal) ℓ) (c : Dev Cert.KernelIdeal.nD) :
    Vec Ideal Cert.ReferenceIdeal.S128 .f32 :=
  Cert.ReferenceIdeal.Read.val_main_v64 (F := Ideal) (Cert.KernelIdeal.Seg.A0 m c) (Cert.KernelIdeal.Seg.A2 m c) (Cert.KernelIdeal.Seg.A4 m c) (Cert.KernelIdeal.Seg.A5 m c) (Cert.KernelIdeal.Seg.A6 m c) (Cert.KernelIdeal.Seg.A7 m c)

/-- The second result on device `c`: the reference's mean of the irreducible branch, of the kernel's own arguments. -/
abbrev second (m : (ℓ : Loc Cert.KernelIdeal.nD Cert.KernelIdeal.τ Cert.KernelIdeal.sig) → Buf (Elt Ideal) ℓ) (c : Dev Cert.KernelIdeal.nD) :
    Vec Ideal Cert.ReferenceIdeal.S128x5 .f32 :=
  Cert.ReferenceIdeal.Read.val_main_v88 (F := Ideal) (Cert.KernelIdeal.Seg.A0 m c) (Cert.KernelIdeal.Seg.A1 m c) (Cert.KernelIdeal.Seg.A2 m c) (Cert.KernelIdeal.Seg.A8 m c) (Cert.KernelIdeal.Seg.A9 m c) (Cert.KernelIdeal.Seg.A10 m c) (Cert.KernelIdeal.Seg.A11 m c)

/-- The argument arrays of device `c` in the memory `n` are those in `m`. -/
abbrev same (m : (ℓ : Loc Cert.KernelIdeal.nD Cert.KernelIdeal.τ Cert.KernelIdeal.sig) → Buf (Elt Ideal) ℓ) (c : Dev Cert.KernelIdeal.nD)
    (n : (ℓ : Loc Cert.KernelIdeal.nD Cert.KernelIdeal.τ Cert.KernelIdeal.sig) → Buf (Elt Ideal) ℓ) : Prop :=
  n ((c.tc : Thread Cert.KernelIdeal.nD Cert.KernelIdeal.τ).loc Cert.KernelIdeal.main_arg0) = m ((c.tc : Thread Cert.KernelIdeal.nD Cert.KernelIdeal.τ).loc Cert.KernelIdeal.main_arg0)
  ∧ n ((c.tc : Thread Cert.KernelIdeal.nD Cert.KernelIdeal.τ).loc Cert.KernelIdeal.main_arg1) = m ((c.tc : Thread Cert.KernelIdeal.nD Cert.KernelIdeal.τ).loc Cert.KernelIdeal.main_arg1)
  ∧ n ((c.tc : Thread Cert.KernelIdeal.nD Cert.KernelIdeal.τ).loc Cert.KernelIdeal.main_arg2) = m ((c.tc : Thread Cert.KernelIdeal.nD Cert.KernelIdeal.τ).loc Cert.KernelIdeal.main_arg2)
  ∧ n ((c.tc : Thread Cert.KernelIdeal.nD Cert.KernelIdeal.τ).loc Cert.KernelIdeal.main_arg3) = m ((c.tc : Thread Cert.KernelIdeal.nD Cert.KernelIdeal.τ).loc Cert.KernelIdeal.main_arg3)
  ∧ n ((c.tc : Thread Cert.KernelIdeal.nD Cert.KernelIdeal.τ).loc Cert.KernelIdeal.main_arg4) = m ((c.tc : Thread Cert.KernelIdeal.nD Cert.KernelIdeal.τ).loc Cert.KernelIdeal.main_arg4)
  ∧ n ((c.tc : Thread Cert.KernelIdeal.nD Cert.KernelIdeal.τ).loc Cert.KernelIdeal.main_arg5) = m ((c.tc : Thread Cert.KernelIdeal.nD Cert.KernelIdeal.τ).loc Cert.KernelIdeal.main_arg5)
  ∧ n ((c.tc : Thread Cert.KernelIdeal.nD Cert.KernelIdeal.τ).loc Cert.KernelIdeal.main_arg6) = m ((c.tc : Thread Cert.KernelIdeal.nD Cert.KernelIdeal.τ).loc Cert.KernelIdeal.main_arg6)
  ∧ n ((c.tc : Thread Cert.KernelIdeal.nD Cert.KernelIdeal.τ).loc Cert.KernelIdeal.main_arg7) = m ((c.tc : Thread Cert.KernelIdeal.nD Cert.KernelIdeal.τ).loc Cert.KernelIdeal.main_arg7)
  ∧ n ((c.tc : Thread Cert.KernelIdeal.nD Cert.KernelIdeal.τ).loc Cert.KernelIdeal.main_arg8) = m ((c.tc : Thread Cert.KernelIdeal.nD Cert.KernelIdeal.τ).loc Cert.KernelIdeal.main_arg8)
  ∧ n ((c.tc : Thread Cert.KernelIdeal.nD Cert.KernelIdeal.τ).loc Cert.KernelIdeal.main_arg9) = m ((c.tc : Thread Cert.KernelIdeal.nD Cert.KernelIdeal.τ).loc Cert.KernelIdeal.main_arg9)
  ∧ n ((c.tc : Thread Cert.KernelIdeal.nD Cert.KernelIdeal.τ).loc Cert.KernelIdeal.main_arg10) = m ((c.tc : Thread Cert.KernelIdeal.nD Cert.KernelIdeal.τ).loc Cert.KernelIdeal.main_arg10)
  ∧ n ((c.tc : Thread Cert.KernelIdeal.nD Cert.KernelIdeal.τ).loc Cert.KernelIdeal.main_arg11) = m ((c.tc : Thread Cert.KernelIdeal.nD Cert.KernelIdeal.τ).loc Cert.KernelIdeal.main_arg11)

/-- Over the extended reals the kernel's two results are the reference's two stages of the kernel's own arguments, and its
    arguments end unchanged. -/
theorem kernel_values (m : (ℓ : Loc Cert.KernelIdeal.nD Cert.KernelIdeal.τ Cert.KernelIdeal.sig) → Buf (Elt Ideal) ℓ)
    (g : Dev Cert.KernelIdeal.nD → PrngReg) (H : ∀ c, Cert.KernelIdeal.Seg.Tame m c) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        (r.2.mem ((c.tc : Thread Cert.KernelIdeal.nD Cert.KernelIdeal.τ).loc Cert.KernelIdeal.main_v108) = first m c
        ∧ r.2.mem ((c.tc : Thread Cert.KernelIdeal.nD Cert.KernelIdeal.τ).loc Cert.KernelIdeal.main_v109) = second m c)
        ∧ same m c r.2.mem) :=
  (θ_run Cert.KernelIdeal.defs _ _).mono
    (fun _ h c => ⟨⟨((h.1 c).2 Cert.KernelIdeal.main_v108 (Pipeline.mem_restRefs_of Cert.KernelIdeal.main_v108 (by decide) (by decide))).trans
          ((Cert.KernelIdeal.Seg.tail_v108 m c).trans (Cert.KernelIdeal.Seg.first_eq m c (H c))),
        ((h.1 c).2 Cert.KernelIdeal.main_v109 (Pipeline.mem_restRefs_of Cert.KernelIdeal.main_v109 (by decide) (by decide))).trans
          ((Cert.KernelIdeal.Seg.tail_v109 m c).trans (Cert.KernelIdeal.Seg.second_eq m c (H c)))⟩, h.2 c⟩)
    (θ_run_and (Cert.KernelIdeal.Seg.run_main m g fun c j => (H c).words j)
      (Cert.KernelIdeal.Seg.unchanged m g fun c j => (H c).words j))

/-- THE VALUES: over the extended reals the kernel's two results are the reference's, for every input `tame_inputs` admits. -/
theorem values : Cert.algebraic_KernelIdeal_ReferenceIdeal_pre_tame_inputs := fun m g m' g' h heq => by
  refine ⟨first m, second m, (θ_run Cert.KernelIdeal.defs _ _).mono (fun _ k c => ⟨(k c).1.1, (k c).1.2, (k c).2⟩)
    (kernel_values m g fun c => Cert.Hyp.parts _ _ _ _ _ _ _ _ _ _ _ _ (h c)), ?_⟩
  refine (θ_run Cert.ReferenceIdeal.defs _ _).mono (fun r k c => ⟨(k c).1.trans ?_, (k c).2.1.trans ?_, (k c).2.2⟩)
    (Cert.ReferenceIdeal.Value.run (F := Ideal) m' g')
  · obtain ⟨e0, e1, e2, e3, e4, e5, e6, e7, e8, e9, e10, e11⟩ := heq c
    refine (Cert.ReferenceIdeal.Read.val_main_v64_eq (F := Ideal) _ _ _ _ _ _).trans ?_
    rw [e0, e2, e4, e5, e6, e7]
  · obtain ⟨e0, e1, e2, e3, e4, e5, e6, e7, e8, e9, e10, e11⟩ := heq c
    refine (Cert.ReferenceIdeal.Read.val_main_v88_eq (F := Ideal) m' c).trans ?_
    rw [e0, e1, e2, e8, e9, e10, e11]

/-- The conjunction of every claim. -/
theorem claim : Cert.Claim := ⟨Cert.Kernel.Gen.facts, Cert.KernelIdeal.Gen.facts, Cert.ReferenceIdeal.Gen.facts, Cert.Pre_words_in_range.Gen.facts,
  Cert.Pre_tame_inputs.Gen.facts, frame_kernel, frame_ideal, frame_ideal_tame, frame_reference, frame_reference_tame, trivial, values⟩

end Cert.Proof

end
